-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_data [hPre_finite_data : Cert.Pre_finite_data.Facts] (m : (ℓ : Loc Cert.KernelIdeal.nD Cert.KernelIdeal.τ Cert.KernelIdeal.sig) → Buf (Elt Ideal) ℓ) : Prop :=
  ∀ c : Dev Cert.KernelIdeal.nD,
    (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_data [hPre_finite_data : Cert.Pre_finite_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_data [hKernelIdeal : Cert.KernelIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_data [hReferenceIdeal : Cert.ReferenceIdeal.Facts] [hPre_finite_data : Cert.Pre_finite_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_data [hKernelIdeal : Cert.KernelIdeal.Facts] [hReferenceIdeal : Cert.ReferenceIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_data : Cert.Pre_finite_data.Facts),
    quiescent_Kernel (hKernel := hKernel)
    ∧ quiescent_KernelIdeal (hKernelIdeal := hKernelIdeal)
    ∧ quiescent_KernelIdeal_pre_finite_data (hKernelIdeal := hKernelIdeal) (hPre_finite_data := hPre_finite_data)
    ∧ quiescent_ReferenceIdeal (hReferenceIdeal := hReferenceIdeal)
    ∧ quiescent_ReferenceIdeal_pre_finite_data (hReferenceIdeal := hReferenceIdeal) (hPre_finite_data := hPre_finite_data)
    ∧ preserves_Kernel_KernelIdeal
    ∧ algebraic_KernelIdeal_ReferenceIdeal_pre_finite_data (hKernelIdeal := hKernelIdeal) (hReferenceIdeal := hReferenceIdeal) (hPre_finite_data := hPre_finite_data)
-- ==== Pre_finite_data.lean ====
abbrev S4x128x256x256 : Shape := ⟨4, ![4, 128, 256, 256]⟩
abbrev S64x128 : Shape := ⟨2, ![64, 128]⟩
abbrev S64 : Shape := ⟨1, ![64]⟩
abbrev S17x64 : Shape := ⟨2, ![17, 64]⟩
abbrev S_ : Shape := ⟨0, ![]⟩

class Facts : Prop where
  bcast_S_S4x128x256x256 : S_.BroadcastsInDim S4x128x256x256 (![] : Fin 0 → Fin S4x128x256x256.rank)
  bcast_S_S64x128 : S_.BroadcastsInDim S64x128 (![] : Fin 0 → Fin S64x128.rank)
  bcast_S_S64 : S_.BroadcastsInDim S64 (![] : Fin 0 → Fin S64.rank)

variable [Facts]

def fn {F : FTy → Type} [FloatOps F] (main_arg0 : FVec F S4x128x256x256 .f32) (main_arg1 : FVec F S64x128 .f32) (main_arg2 : FVec F S64 .f32) (main_arg3 : FVec F S64 .f32) (main_arg4 : FVec F S17x64 .f32) : IVec S4x128x256x256 1 × IVec S64x128 1 × IVec S64 1 :=
  let main_v0 : FVec F S4x128x256x256 .f32 := Host.absf main_arg0
  let main_cst : FVec F S_ .f32 := constant S_ .f32 0x7F800000#32
  let main_v1 : FVec F S4x128x256x256 .f32 := broadcastInDim S4x128x256x256 ![] bcast_S_S4x128x256x256 main_cst
  let main_v2 : IVec S4x128x256x256 1 := cmpf .olt main_v0 main_v1
  let main_v3 : FVec F S64x128 .f32 := Host.absf main_arg1
  let main_cst_0 : FVec F S_ .f32 := constant S_ .f32 0x7F800000#32
  let main_v4 : FVec F S64x128 .f32 := broadcastInDim S64x128 ![] bcast_S_S64x128 main_cst_0
  let main_v5 : IVec S64x128 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Kernel.lean ====
abbrev S4x128x256x256 : Shape := ⟨4, ![4, 128, 256, 256]⟩
abbrev S64x128 : Shape := ⟨2, ![64, 128]⟩
abbrev S64 : Shape := ⟨1, ![64]⟩
abbrev S17x64 : Shape := ⟨2, ![17, 64]⟩
abbrev S4x128x65536 : Shape := ⟨3, ![4, 128, 65536]⟩
abbrev S64x1 : Shape := ⟨2, ![64, 1]⟩
abbrev S4x17x65536 : Shape := ⟨3, ![4, 17, 65536]⟩
abbrev S4x17x256x256 : Shape := ⟨4, ![4, 17, 256, 256]⟩
abbrev S1x128x16384 : Shape := ⟨3, ![1, 128, 16384]⟩
abbrev S1x17x16384 : Shape := ⟨3, ![1, 17, 16384]⟩
abbrev S2x64x65536 : Shape := ⟨3, ![2, 64, 65536]⟩
abbrev S2x64x2 : Shape := ⟨3, ![2, 64, 2]⟩
abbrev S64x16384 : Shape := ⟨2, ![64, 16384]⟩
abbrev S64x64 : Shape := ⟨2, ![64, 64]⟩
abbrev S1x64x2 : Shape := ⟨3, ![1, 64, 2]⟩
abbrev S64x2 : Shape := ⟨2, ![64, 2]⟩
abbrev S1x64x16384 : Shape := ⟨3, ![1, 64, 16384]⟩
abbrev S17x16384 : Shape := ⟨2, ![17, 16384]⟩
abbrev S128x16384 : Shape := ⟨2, ![128, 16384]⟩
abbrev S1x64x1 : Shape := ⟨3, ![1, 64, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x128x256x256, .f32⟩
  | .hbm, ⟨1, _⟩ => ⟨S64x128, .f32⟩
  | .hbm, ⟨2, _⟩ => ⟨S64, .f32⟩
  | .hbm, ⟨3, _⟩ => ⟨S64, .f32⟩
  | .hbm, ⟨4, _⟩ => ⟨S17x64, .f32⟩
  | .hbm, ⟨5, _⟩ => ⟨S4x128x65536, .f32⟩
  | .hbm, ⟨6, _⟩ => ⟨S64x1, .f32⟩
  | .hbm, ⟨7, _⟩ => ⟨S64x1, .f32⟩
  | .hbm, ⟨8, _⟩ => ⟨S64x128, .bf16⟩
  | .hbm, ⟨9, _⟩ => ⟨S17x64, .bf16⟩
  | .hbm, ⟨10, _⟩ => ⟨S4x17x65536, .f32⟩
  | .hbm, ⟨11, _⟩ => ⟨S4x17x256x256, .f32⟩
  | .local _ .vmem, ⟨0, _⟩ => ⟨S1x128x16384, .f32⟩
  | .local _ .vmem, ⟨1, _⟩ => ⟨S1x128x16384, .f32⟩
  | .local _ .vmem, ⟨2, _⟩ => ⟨S64x128, .bf16⟩
  | .local _ .vmem, ⟨3, _⟩ => ⟨S64x1, .f32⟩
  | .local _ .vmem, ⟨4, _⟩ => ⟨S64x1, .f32⟩
  | .local _ .vmem, ⟨5, _⟩ => ⟨S17x64, .bf16⟩
  | .local _ .vmem, ⟨6, _⟩ => ⟨S1x17x16384, .f32⟩
  | .local _ .vmem, ⟨7, _⟩ => ⟨S1x17x16384, .f32⟩
  | .local _ .vmem, ⟨8, _⟩ => ⟨S2x64x65536, .bf16⟩
  | .local _ .vmem, ⟨9, _⟩ => ⟨S2x64x2, .f32⟩
  | .local _ .vmem, ⟨10, _⟩ => ⟨S64x16384, .f32⟩
  | .local _ .vmem, ⟨11, _⟩ => ⟨S64x16384, .f32⟩
  | _, _ => ⟨S4x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg0 : BitVec 32 := BitVec.ofNat 32 (i 0).val
  let c1_i32 : BitVec 32 := 1#32
  let v1 : BitVec 1 := Scalar.cmpi .sge arg0 c1_i32
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_1 : BitVec 32 := 0#32
  let v7 : BitVec 1 := Scalar.cmpi .eq arg1 c0_i32_1
  let v8 : BitVec 32 := Scalar.extui v7
  let c0_i32_2 : BitVec 32 := 0#32
  let v9 : BitVec 1 := Scalar.cmpi .ne v8 c0_i32_2
  v9

def k0_off1 (i : grid0.Coords) : Fin 3 → Nat :=
  let c1_i32_28 : BitVec 32 := 1#32
  let arg0 : BitVec 32 := BitVec.ofNat 32 (i 0).val
  let c2_i32 : BitVec 32 := 2#32
  let v0 : BitVec 32 := Scalar.remsi arg0 c2_i32
  let v83 : BitVec 32 := Scalar.subi c1_i32_28 v0
  let v84 : Index := Scalar.indexCast v83
  let c0_29 : Index := 0#32
  let c0_30 : Index := 0#32
  ![v84.toNat, 0, 0]
def k0_off2 (i : grid0.Coords) : Fin 3 → Nat :=
  let c1_i32_3 : BitVec 32 := 1#32
  let arg0 : BitVec 32 := BitVec.ofNat 32 (i 0).val
  let c2_i32 : BitVec 32 := 2#32
  let v0 : BitVec 32 := Scalar.remsi arg0 c2_i32
  let v10 : BitVec 32 := Scalar.subi c1_i32_3 v0
  let v12 : Index := Scalar.indexCast v10
  let c0 : Index := 0#32
  let arg1 : BitVec 32 := BitVec.ofNat 32 (i 1).val
  let c16384_i32 : BitVec 32 := 16384#32
  let v11 : BitVec 32 := Scalar.muli arg1 c16384_i32
  let v13 : Index := Scalar.indexCast v11
  ![v12.toNat, 0, v13.toNat]
def k0_cond3 (i : grid0.Coords) : BitVec 1 :=
  let arg0 : BitVec 32 := BitVec.ofNat 32 (i 0).val
  let c4_i32 : BitVec 32 := 4#32
  let v4 : BitVec 1 := Scalar.cmpi .slt arg0 c4_i32
  let v5 : BitVec 32 := Scalar.extui v4
  let c0_i32_0 : BitVec 32 := 0#32
  let v6 : BitVec 1 := Scalar.cmpi .ne v5 c0_i32_0
  v6

def k0_cond4 (i : grid0.Coords) : BitVec 1 :=
  let arg1 : BitVec 32 := BitVec.ofNat 32 (i 1).val
  let c0_i32_1 : BitVec 32 := 0#32
  let v7 : BitVec 1 := Scalar.cmpi .eq arg1 c0_i32_1
  let v8 : BitVec 32 := Scalar.extui v7
  let c0_i32_2 : BitVec 32 := 0#32
  let v9 : BitVec 1 := Scalar.cmpi .ne v8 c0_i32_2
  v9

def k0_off3 (i : grid0.Coords) : Fin 3 → Nat :=
  let arg0 : BitVec 32 := BitVec.ofNat 32 (i 0).val
  let c2_i32 : BitVec 32 := 2#32
  let v0 : BitVec 32 := Scalar.remsi arg0 c2_i32
  let v45 : Index := Scalar.indexCast v0
  let c0_18 : Index := 0#32
  let c0_19 : Index := 0#32
  ![v45.toNat, 0, 0]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v18 : Index := Scalar.indexCast v0
  let c0_7 : Index := 0#32
  let arg1 : BitVec 32 := BitVec.ofNat 32 (i 1).val
  let c16384_i32 : BitVec 32 := 16384#32
  let v17 : BitVec 32 := Scalar.muli arg1 c16384_i32
  let v19 : Index := Scalar.indexCast v17
  ![v18.toNat, 0, v19.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v28 : Index := Scalar.indexCast v0
  let c0_10 : Index := 0#32
  let c0_11 : Index := 0#32
  ![v28.toNat, 0, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v36 : Index := Scalar.indexCast v0
  let c0_14 : Index := 0#32
  let c1 : Index := 1#32
  ![v36.toNat, 0, 1]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .eq arg0 c4_i32
  let c3_i32_0 : BitVec 32 := 3#32
  let v2 : BitVec 32 := Scalar.select v1 c3_i32_0 arg1
  let c0_i32 : BitVec 32 := 0#32
  let c0_i32_1 : BitVec 32 := 0#32
  ![v0.toNat, c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, c0_i32_2.toNat, v3.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S17x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x17x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x128x256x256 : Shape := ⟨4, ![4, 128, 256, 256]⟩
abbrev S64x128 : Shape := ⟨2, ![64, 128]⟩
abbrev S64 : Shape := ⟨1, ![64]⟩
abbrev S17x64 : Shape := ⟨2, ![17, 64]⟩
abbrev S64x4x256x256 : Shape := ⟨4, ![64, 4, 256, 256]⟩
abbrev S4x64x256x256 : Shape := ⟨4, ![4, 64, 256, 256]⟩
abbrev S4x32x2x256x256 : Shape := ⟨5, ![4, 32, 2, 256, 256]⟩
abbrev S_ : Shape := ⟨0, ![]⟩
abbrev S4x32 : Shape := ⟨2, ![4, 32]⟩
abbrev S4x32x1x1x1 : Shape := ⟨5, ![4, 32, 1, 1, 1]⟩
abbrev S1x64x1x1 : Shape := ⟨4, ![1, 64, 1, 1]⟩
abbrev S17x4x256x256 : Shape := ⟨4, ![17, 4, 256, 256]⟩
abbrev S4x17x256x256 : Shape := ⟨4, ![4, 17, 256, 256]⟩

abbrev nBuf : Space → Nat
  | .hbm => 58
  | .vmem => 0
  | .smem => 0
  | _ => 0

abbrev bufTy : (tb : Table) → Fin (tcTables nBuf tb) → BufTy
  | .hbm, ⟨0, _⟩ => ⟨S4x128x256x256, .f32⟩
  | .hbm, ⟨1, _⟩ => ⟨S64x128, .f32⟩
  | .hbm, ⟨2, _⟩ => ⟨S64, .f32⟩
  | .hbm, ⟨3, _⟩ => ⟨S64, .f32⟩
  | .hbm, ⟨4, _⟩ => ⟨S17x64, .f32⟩
  | .hbm, ⟨5, _⟩ => ⟨S64x4x256x256, .f32⟩
  | .hbm, ⟨6, _⟩ => ⟨S4x64x256x256, .f32⟩
  | .hbm, ⟨7, _⟩ => ⟨S4x32x2x256x256, .f32⟩
  | .hbm, ⟨8, _⟩ => ⟨S_, .f32⟩
  | .hbm, ⟨9, _⟩ => ⟨S4x32, .f32⟩
  | .hbm, ⟨10, _⟩ => ⟨S4x32x1x1x1, .f32⟩
  | .hbm, ⟨11, _⟩ => ⟨S_, .f32⟩
  | .hbm, ⟨12, _⟩ => ⟨S4x32x1x1x1, .f32⟩
  | .hbm, ⟨13, _⟩ => ⟨S4x32x1x1x1, .f32⟩
  | .hbm, ⟨14, _⟩ => ⟨S_, .i32⟩
  | .hbm, ⟨15, _⟩ => ⟨S_, .f32⟩
  | .hbm, ⟨16, _⟩ => ⟨S4x32, .f32⟩
  | .hbm, ⟨17, _⟩ => ⟨S4x32x1x1x1, .f32⟩
  | .hbm, ⟨18, _⟩ => ⟨S_, .f32⟩
  | .hbm, ⟨19, _⟩ => ⟨S4x32x1x1x1, .f32⟩
  | .hbm, ⟨20, _⟩ => ⟨S4x32x1x1x1, .f32⟩
  | .hbm, ⟨21, _⟩ => ⟨S4x32x2x256x256, .f32⟩
  | .hbm, ⟨22, _⟩ => ⟨S4x32x2x256x256, .f32⟩
  | .hbm, ⟨23, _⟩ => ⟨S4x32x2x256x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x32, .f32⟩
  | .hbm, ⟨29, _⟩ => ⟨S4x32x1x1x1, .f32⟩
  | .hbm, ⟨30, _⟩ => ⟨S4x32x1x1x1, .f32⟩
  | .hbm, ⟨31, _⟩ => ⟨S4x32x1x1x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S4x32x1x1x1, .f32⟩
  | .hbm, ⟨37, _⟩ => ⟨S4x32x1x1x1, .f32⟩
  | .hbm, ⟨38, _⟩ => ⟨S4x32x2x256x256, .f32⟩
  | .hbm, ⟨39, _⟩ => ⟨S4x32x2x256x256, .f32⟩
  | .hbm, ⟨40, _⟩ => ⟨S_, .f32⟩
  | .hbm, ⟨41, _⟩ => ⟨S4x32x1x1x1, .f32⟩
  | .hbm, ⟨42, _⟩ => ⟨S4x32x1x1x1, .f32⟩
  | .hbm, ⟨43, _⟩ => ⟨S4x32x1x1x1, .f32⟩
  | .hbm, ⟨44, _⟩ => ⟨S4x32x2x256x256, .f32⟩
  | .hbm, ⟨45, _⟩ => ⟨S4x32x2x256x256, .f32⟩
  | .hbm, ⟨46, _⟩ => ⟨S4x64x256x256, .f32⟩
  | .hbm, ⟨47, _⟩ => ⟨S1x64x1x1, .f32⟩
  | .hbm, ⟨48, _⟩ => ⟨S4x64x256x256, .f32⟩
  | .hbm, ⟨49, _⟩ => ⟨S4x64x256x256, .f32⟩
  | .hbm, ⟨50, _⟩ => ⟨S1x64x1x1, .f32⟩
  | .hbm, ⟨51, _⟩ => ⟨S4x64x256x256, .f32⟩
  | .hbm, ⟨52, _⟩ => ⟨S4x64x256x256, .f32⟩
  | .hbm, ⟨53, _⟩ => ⟨S_, .f32⟩
  | .hbm, ⟨54, _⟩ => ⟨S4x64x256x256, .f32⟩
  | .hbm, ⟨55, _⟩ => ⟨S4x64x256x256, .f32⟩
  | .hbm, ⟨56, _⟩ => ⟨S17x4x256x256, .f32⟩
  | .hbm, ⟨57, _⟩ => ⟨S4x17x256x256, .f32⟩
  | _, _ => ⟨S4x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_call1_cst : Ref sig .tc := ⟨.hbm, 53, rfl⟩
abbrev main_call1_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩

abbrev nD : Nat := 1
abbrev τ : Topo := Topo.v7x

variable {F : FTy → Type} [FloatOps F]
-- ==== Proof.KernelFrame.lean ====
/-
  The frame of `Kernel`: at any float values the program runs, faults nowhere, leaves its argument arrays as they
  were and every semaphore counter at zero. What the kernel writes is not described here: the four scratch buffers
  are held at some contents between the grid's points (the library's class invariant `Pipeline.ΦA`) and the output window is
  forgotten.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- A memref held whole at some contents. -/
abbrev some' (c : Dev nD) {sp : Space} {s : Shape} {e : EltTy} (a : Memref sig .tc sp s e) : sProp 𝕄 :=
  iprop(∃ d, owns (c : Thread nD τ) a fullShare d)

set_option maxHeartbeats 1600000 in
/-- The kernel body on whole memrefs, the inputs' at read contents `xW` and the output's and the scratch's at anything, runs to
    the continuation holding the inputs' as they were and the others' at something. -/
theorem sound_kernel (c : Dev nD) (i : grid0.Coords)
    (a2 : Memref sig .tc .vmem S1x128x16384 .f32) (h2 : a2.IsWhole) (a3 : Memref sig .tc .vmem S64x128 .bf16) (h3 : a3.IsWhole)
    (a4 : Memref sig .tc .vmem S64x1 .f32) (h4 : a4.IsWhole) (a5 : Memref sig .tc .vmem S64x1 .f32) (h5 : a5.IsWhole)
    (a6 : Memref sig .tc .vmem S17x64 .bf16) (h6 : a6.IsWhole) (a7 : Memref sig .tc .vmem S1x17x16384 .f32) (h7 : a7.IsWhole)
    (a8 : Memref sig .tc .vmem S2x64x65536 .bf16) (h8 : a8.IsWhole) (a9 : Memref sig .tc .vmem S2x64x2 .f32) (h9 : a9.IsWhole)
    (a10 : Memref sig .tc .vmem S64x16384 .f32) (h10 : a10.IsWhole) (a11 : Memref sig .tc .vmem S64x16384 .f32) (h11 : a11.IsWhole)
    (x2 : Vec F S1x128x16384 .f32) (x3 : Vec F S64x128 .bf16) (x4 x5 : Vec F S64x1 .f32) (x6 : Vec F S17x64 .bf16) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ some' c a7 ∗ some' c a8 ∗ some' c a9 ∗ some' c a10 ∗ some' c a11
        ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6
            ∗ some' c a7 ∗ some' c a8 ∗ some' c a9 ∗ some' c a10 ∗ some' c a11) -∗ K ⟨⟩))
      ⊢ wp frame (wpE (defs₀ (F := F)) Variants.none c none) Set.univ
          (cc0__fused_kernel i a2 h2 a3 h3 a4 h4 a5 h5 a6 h6 a7 h7 a8 h8 a9 h9 a10 h10 a11 h11) K := by
  simp only [cc0__fused_kernel_eq_skeleton]; unfold cc0__fused_kernel_skel
  unfold some' owns
  iintro ⟨⟨%f2, %hf2, H2⟩, ⟨%f3, %hf3, H3⟩, ⟨%f4, %hf4, H4⟩, ⟨%f5, %hf5, H5⟩, ⟨%f6, %hf6, H6⟩, ⟨%d7, %f7, -, H7⟩,
    ⟨%d8, %f8, -, H8⟩, ⟨%d9, %f9, -, H9⟩, ⟨%d10, %f10, -, H10⟩, ⟨%d11, %f11, -, H11⟩, Hk⟩
  subst hf2 hf3 hf4 hf5 hf6
  by_cases k1 : k0_cond1 i = 1#1 <;> by_cases k2 : k0_cond2 i = 1#1 <;> by_cases k3 : k0_cond3 i = 1#1 <;>
    by_cases k4 : k0_cond4 i = 1#1
  all_goals
    sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl

/-! ## The pipeline's proof data -/

/-- The output window is the one forgotten. -/
abbrev fgt : Fin cfg0.W → Bool := fun | 0 => false | 1 => false | 2 => false | 3 => false | 4 => false | 5 => true | ⟨_ + 6, h⟩ => absurd h (Nat.not_lt.2 (Nat.le_add_left _ _))

/-- The proof data of the one pipeline on core `c`: the arrays as the region finds them; after the body each input's
    buffer at its block, the output's unnamed; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- A buffer held at some contents is its whole memref held at some contents. -/
theorem some'_whole (c : Dev nD) (b : Ref sig .tc) :
    (some' (F := F) c (Memref.whole b) : sProp 𝕄) = iprop(∃ f : Buf (Elt F) ((c : Thread nD τ).loc b), ((c : Thread nD τ).loc b) ↦{fullShare} f) := by
  unfold some'
  simp only [owns_whole_eq]
  have h₁ : (iprop(∃ d, ∃ f : Buf (Elt F) ((c : Thread nD τ).loc b), ⌜f = d⌝ ∗ ((c : Thread nD τ).loc b) ↦{fullShare} f) : sProp 𝕄)
      ⊢ iprop(∃ f : Buf (Elt F) ((c : Thread nD τ).loc b), ((c : Thread nD τ).loc b) ↦{fullShare} f) := by
    iintro ⟨%d, %f, %hf, H⟩; iexists f; iexact H
  have h₂ : (iprop(∃ f : Buf (Elt F) ((c : Thread nD τ).loc b), ((c : Thread nD τ).loc b) ↦{fullShare} f) : sProp 𝕄)
      ⊢ iprop(∃ d, ∃ f : Buf (Elt F) ((c : Thread nD τ).loc b), ⌜f = d⌝ ∗ ((c : Thread nD τ).loc b) ↦{fullShare} f) := by
    iintro ⟨%f, H⟩; iexists f; iexists f; isplitr; · ipureintro; rfl
    iexact H
  exact BI.Entails.antisymm h₁ h₂

/-- The body at any point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  simp only [← some'_whole]
  iintro ⟨⟨⟨S0, S1, S2, S3⟩, Hg⟩, Ho, ⟨%d0, H0⟩, ⟨%d1, H1⟩, ⟨%d2, H2⟩, ⟨%d3, H3⟩, ⟨%d4, H4⟩, H5⟩
  iapply (sound_kernel c (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [Hg S0 S1 S2 S3]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, the output window forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run and the frame -/

/-- The host operation after the region writes `main_v0` alone. -/
theorem sfx_writes : ∀ ops ∈ ([hostOps1] : List (List (HloOp τ sig (Elt F)))), ∀ op ∈ ops, ∀ b : Ref sig .tc,
    Proc.devRef .tc b ∈ op.writes → b ∈ ({main_v0} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (by_contra fun h => StableHlo.devRef_ne_of_ne h hb)

set_option backward.isDefEq.respectTransparency.types false in
/-- THE FRAME: `Cert.quiescent_Kernel`'s statement (Defs.lean) at any `F`; Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_around_T_forget cfgs (dats m) (0 : Fin 1) launch0 defs₀ Variants.none fgt {main_v0} m ρ main
    (body_obligation m) (fun c => (dats m 0 c).share_full fun _ => rfl) (fun _ _ => rfl) (V0 m) [hostOps1]
    sfx_sub sfx_fresh sfx_keeps sfx_writes (hmain m Variants.none) (A_eq m) (fun _ _ => rfl) _
    (fun r h => ⟨fun c => ⟨((h.1 c).2 main_arg0 (by decide)).trans (V_main_arg0 m c),
      ((h.1 c).2 main_arg1 (by decide)).trans (V_main_arg1 m c),
      ((h.1 c).2 main_arg2 (by decide)).trans (V_main_arg2 m c),
      ((h.1 c).2 main_arg3 (by decide)).trans (V_main_arg3 m c),
      ((h.1 c).2 main_arg4 (by decide)).trans (V_main_arg4 m c)⟩, h.2⟩)

end Cert.Proof.KernelFrame

end
-- ==== Proof.Body.lean ====
/-
  The kernel body of `KernelIdeal` as a step on plain vectors: what each of the four scratch buffers and the output's
  staging buffer hold after the body, from what they and the inputs' blocks held before it (`stepX`, `stepS`, `stepA`,
  `stepC`, `stepO`), and the body's triple against that step (`sound_kernel`).
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The step on plain vectors -/

/-- The convolution results kept in scratch: in the accumulating phase this point's block is put in its batch's slot. -/
def stepX (i : grid0.Coords) (f : Vec F S1x128x16384 .f32) (w : Vec F S64x128 .bf16) (x : Vec F S2x64x65536 .bf16) : Vec F S2x64x65536 .bf16 :=
  if k0_cond3 i = 1#1 then VecWindow.put x (k0_off4 i) S1x64x16384.size (k0_pay12 f w) else x

/-- The statistics as the accumulating phase finds them: its batch's slot cleared at the batch's first point. -/
def zeroS (i : grid0.Coords) (st : Vec F S2x64x2 .f32) : Vec F S2x64x2 .f32 :=
  if k0_cond4 i = 1#1 then VecWindow.put st (k0_off3 i) S1x64x2.size (k0_pay10 (F := F)) else st

/-- The statistics with this point's row sums added. -/
def sumS (i : grid0.Coords) (h : k0_cond3 i = 1#1) (f : Vec F S1x128x16384 .f32) (w : Vec F S64x128 .bf16) (st : Vec F S2x64x2 .f32) : Vec F S2x64x2 .f32 :=
  VecWindow.put st (k0_off5 i) S1x64x1.size (k0_pay13 f w (VecWindow.window st (k0_off5 i) S1x64x1.size (k0_off5_inb i h)))

/-- The statistics with this point's row sums of squares added. -/
def sqS (i : grid0.Coords) (h : k0_cond3 i = 1#1) (f : Vec F S1x128x16384 .f32) (w : Vec F S64x128 .bf16) (st : Vec F S2x64x2 .f32) : Vec F S2x64x2 .f32 :=
  VecWindow.put st (k0_off6 i) S1x64x1.size (k0_pay14 f w (VecWindow.window st (k0_off6 i) S1x64x1.size (k0_off6_inb i h)))

/-- The statistics after the body. -/
def stepS (i : grid0.Coords) (f : Vec F S1x128x16384 .f32) (w : Vec F S64x128 .bf16) (st : Vec F S2x64x2 .f32) : Vec F S2x64x2 .f32 :=
  if h : k0_cond3 i = 1#1 then sqS i h f w (sumS i h f w (zeroS i st)) else st

/-- The multipliers after the body: recomputed from the finished statistics at the emitting phase's first point of a batch. -/
def stepA (i : grid0.Coords) (g : Vec F S64x1 .f32) (st : Vec F S2x64x2 .f32) (a : Vec F S64x16384 .f32) : Vec F S64x16384 .f32 :=
  if h₁ : k0_cond1 i = 1#1 then
    if h₂ : k0_cond2 i = 1#1 then k0_pay4 k0_pay7 k0_pay8 k0_pay9 (VecWindow.window st (k0_off1 i) S1x64x2.size (k0_off1_inb i h₁ h₂)) g else a
  else a

/-- The offsets after the body, likewise. -/
def stepC (i : grid0.Coords) (g b : Vec F S64x1 .f32) (st : Vec F S2x64x2 .f32) (a : Vec F S64x16384 .f32) : Vec F S64x16384 .f32 :=
  if h₁ : k0_cond1 i = 1#1 then
    if h₂ : k0_cond2 i = 1#1 then k0_pay5 k0_pay7 k0_pay8 k0_pay9 (VecWindow.window st (k0_off1 i) S1x64x2.size (k0_off1_inb i h₁ h₂)) g b else a
  else a

/-- The output's staging buffer after the body: written in the emitting phase, from the multipliers and offsets the body leaves. -/
def stepO (i : grid0.Coords) (x : Vec F S2x64x65536 .bf16) (a' c' : Vec F S64x16384 .f32) (w : Vec F S17x64 .bf16) (o : Vec F S1x17x16384 .f32) : Vec F S1x17x16384 .f32 :=
  if h₁ : k0_cond1 i = 1#1 then k0_pay6 (VecWindow.window x (k0_off2 i) S1x64x16384.size (k0_off2_inb i h₁)) a' c' w else o

/-! ## Reading back loads and stores -/

section Reads

variable {sig' : RefSig} {κ : Kind} {sp : Space} {s : Shape} {e : EltTy} {Val : EltTy → Type}

/-- A load through a unit-stride rectangle is a window of what the view reads. -/
theorem load_window (v : View sig' κ sp s e) (f : v.ty.Contents Val) {off size : Fin s.rank → ℕ} (inb : ∀ a, off a + size a ≤ s.size a) :
    v.readAt Val (Rect.unit off size inb).toLoadRect f = VecWindow.window (v.read Val f) off size inb :=
  View.readAt_unit v f inb rfl inb

/-- An unmasked store over earlier ones is a put over what they left. -/
theorem store_put (v : View sig' κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A covered load is a load of what the stores leave over any contents at all. -/
theorem load_cov [∀ e, Nonempty (Val e)] (v : View sig' κ sp s e) {off size : Fin s.rank → ℕ} (inb : ∀ a, off a + size a ≤ s.size a)
    (L : List (View.Piece Val s e)) :
    v.readCov L (Rect.unit off size inb).toLoadRect = VecWindow.window (v.read Val (v.writes Val v.junk L)) off size inb := rfl

end Reads

/-- The first statistics column of the accumulating slot lies inside the slot. -/
theorem off5_in (i : grid0.Coords) : ∀ a, k0_off3 i a ≤ k0_off5 i a ∧ k0_off5 i a + S1x64x1.size a ≤ k0_off3 i a + S1x64x2.size a
  | 0 => ⟨le_refl _, le_refl _⟩
  | 1 => ⟨le_refl _, le_refl _⟩
  | 2 => ⟨le_refl _, by show 0 + 1 ≤ 0 + 2; omega⟩

/-- The second statistics column of the accumulating slot lies inside the slot. -/
theorem off6_in (i : grid0.Coords) : ∀ a, k0_off3 i a ≤ k0_off6 i a ∧ k0_off6 i a + S1x64x1.size a ≤ k0_off3 i a + S1x64x2.size a
  | 0 => ⟨le_refl _, le_refl _⟩
  | 1 => ⟨le_refl _, le_refl _⟩
  | 2 => ⟨by show 0 ≤ 1; omega, le_refl _⟩

/-- The second column of the cleared slot, past a store to the first column, does not depend on what the buffer held before. -/
theorem second_cleared (i : grid0.Coords) (h : k0_cond3 i = 1#1) (x : Vec F S2x64x2 .f32) (z : Vec F S1x64x2 .f32) (u : Vec F S1x64x1 .f32) :
    VecWindow.window (s := S2x64x2) (VecWindow.put (VecWindow.put (s := S2x64x2) x (k0_off3 i) S1x64x2.size z) (k0_off5 i) S1x64x1.size u) (k0_off6 i) S1x64x1.size
        (k0_off6_inb i h)
      = VecWindow.window (s := ⟨3, S1x64x2.size⟩) z (fun a => k0_off6 i a - k0_off3 i a) S1x64x1.size
          (fun a => by have := off6_in i a; show k0_off6 i a - k0_off3 i a + S1x64x1.size a ≤ S1x64x2.size a; omega) :=
  (VecWindow.window_put_of_disjoint _ _ _ _ _ _ _ (2 : Fin 3) (Or.inr (le_refl 1))).trans (VecWindow.window_put_of_inside _ _ _ _ _ _ _ (off6_in i))

/-- The first column of the cleared slot does not depend on what the buffer held before. -/
theorem first_cleared (i : grid0.Coords) (h : k0_cond3 i = 1#1) (x : Vec F S2x64x2 .f32) (z : Vec F S1x64x2 .f32) :
    VecWindow.window (s := S2x64x2) (VecWindow.put (s := S2x64x2) x (k0_off3 i) S1x64x2.size z) (k0_off5 i) S1x64x1.size (k0_off5_inb i h)
      = VecWindow.window (s := ⟨3, S1x64x2.size⟩) z (fun a => k0_off5 i a - k0_off3 i a) S1x64x1.size
          (fun a => by have := off5_in i a; show k0_off5 i a - k0_off3 i a + S1x64x1.size a ≤ S1x64x2.size a; omega) :=
  VecWindow.window_put_of_inside _ _ _ _ _ _ _ (off5_in i)

/-- The second statistics column is not touched by a store to the first. -/
theorem second_past_first (i : grid0.Coords) (h : k0_cond3 i = 1#1) (x : Vec F S2x64x2 .f32) (u : Vec F S1x64x1 .f32) :
    VecWindow.window (s := S2x64x2) x (k0_off6 i) S1x64x1.size (k0_off6_inb i h)
      = VecWindow.window (s := S2x64x2) (VecWindow.put (s := S2x64x2) x (k0_off5 i) S1x64x1.size u) (k0_off6 i) S1x64x1.size (k0_off6_inb i h) :=
  (VecWindow.window_put_of_disjoint _ _ _ _ _ _ _ (2 : Fin 3) (Or.inr (le_refl 1))).symm

/-- Sums accumulated onto a cleared slot, read back over any other contents, are the sums of the step. -/
theorem sums_of_cleared (i : grid0.Coords) (h : k0_cond3 i = 1#1) (y x : Vec F S2x64x2 .f32) (z : Vec F S1x64x2 .f32) (f : Vec F S1x128x16384 .f32)
    (w : Vec F S64x128 .bf16) :
    VecWindow.put (VecWindow.put (VecWindow.put (s := S2x64x2) x (k0_off3 i) S1x64x2.size z) (k0_off5 i) S1x64x1.size
        (k0_pay13 f w (VecWindow.window (s := S2x64x2) (VecWindow.put (s := S2x64x2) y (k0_off3 i) S1x64x2.size z) (k0_off5 i) S1x64x1.size (k0_off5_inb i h))))
      (k0_off6 i) S1x64x1.size
      (k0_pay14 f w (VecWindow.window (s := S2x64x2) (VecWindow.put (VecWindow.put (s := S2x64x2) y (k0_off3 i) S1x64x2.size z) (k0_off5 i) S1x64x1.size
        (k0_pay13 f w (VecWindow.window (s := S2x64x2) (VecWindow.put (s := S2x64x2) y (k0_off3 i) S1x64x2.size z) (k0_off5 i) S1x64x1.size (k0_off5_inb i h))))
        (k0_off6 i) S1x64x1.size (k0_off6_inb i h)))
    = sqS i h f w (sumS i h f w (VecWindow.put (s := S2x64x2) x (k0_off3 i) S1x64x2.size z)) := by
  unfold sqS sumS
  rw [second_cleared i h, second_cleared i h, first_cleared i h, first_cleared i h]

/-! ## The body's triple -/

set_option maxHeartbeats 1600000 in
/-- The kernel body on whole memrefs at read contents runs to the continuation holding the inputs' as they were, and the
    output's and the scratch's at the step's values. -/
theorem sound_kernel (c : Dev nD) (i : grid0.Coords)
    (a2 : Memref sig .tc .vmem S1x128x16384 .f32) (h2 : a2.IsWhole) (a3 : Memref sig .tc .vmem S64x128 .bf16) (h3 : a3.IsWhole)
    (a4 : Memref sig .tc .vmem S64x1 .f32) (h4 : a4.IsWhole) (a5 : Memref sig .tc .vmem S64x1 .f32) (h5 : a5.IsWhole)
    (a6 : Memref sig .tc .vmem S17x64 .bf16) (h6 : a6.IsWhole) (a7 : Memref sig .tc .vmem S1x17x16384 .f32) (h7 : a7.IsWhole)
    (a8 : Memref sig .tc .vmem S2x64x65536 .bf16) (h8 : a8.IsWhole) (a9 : Memref sig .tc .vmem S2x64x2 .f32) (h9 : a9.IsWhole)
    (a10 : Memref sig .tc .vmem S64x16384 .f32) (h10 : a10.IsWhole) (a11 : Memref sig .tc .vmem S64x16384 .f32) (h11 : a11.IsWhole)
    (x2 : Vec F S1x128x16384 .f32) (x3 : Vec F S64x128 .bf16) (x4 x5 : Vec F S64x1 .f32) (x6 : Vec F S17x64 .bf16)
    (x7 : Vec F S1x17x16384 .f32) (x8 : Vec F S2x64x65536 .bf16) (x9 : Vec F S2x64x2 .f32) (x10 x11 : Vec F S64x16384 .f32) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11
        ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6
            ∗ owns (c : Thread nD τ) a7 fullShare (stepO i x8 (stepA i x4 x9 x10) (stepC i x4 x5 x9 x11) x6 x7)
            ∗ owns (c : Thread nD τ) a8 fullShare (stepX i x2 x3 x8) ∗ owns (c : Thread nD τ) a9 fullShare (stepS i x2 x3 x9)
            ∗ owns (c : Thread nD τ) a10 fullShare (stepA i x4 x9 x10) ∗ owns (c : Thread nD τ) a11 fullShare (stepC i x4 x5 x9 x11)) -∗ K ⟨⟩))
      ⊢ wp frame (wpE (defs₀ (F := F)) Variants.none c none) Set.univ
          (cc0__fused_kernel i a2 h2 a3 h3 a4 h4 a5 h5 a6 h6 a7 h7 a8 h8 a9 h9 a10 h10 a11 h11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, Hk⟩
  subst hf2 hf3 hf4 hf5 hf6 hf7 hf8 hf9 hf10 hf11
  by_cases k1 : k0_cond1 i = 1#1 <;> by_cases k2 : k0_cond2 i = 1#1 <;> by_cases k3 : k0_cond3 i = 1#1
  all_goals
    have k4 : k0_cond4 i = k0_cond2 i := rfl
    sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr; swap; · iexact H7
      ipureintro
      sl_unfold_run_names
      simp only [stepO, stepA, stepC, k1, k2, ↓reduceDIte, View.readAt_full (s := S64x1), View.readAt_full (s := S64x16384), View.readAt_full (s := S17x64), View.readAt_full (s := S64x128), View.readAt_full (s := S1x128x16384), View.read_writes_full (s := S64x16384), View.read_writes_full (s := S1x17x16384), View.readAt_writes_full (s := S64x16384), View.readCov_full (s := S64x16384)] <;> rfl
    isplitl [H8]
    · iexists _; isplitr; swap; · iexact H8
      ipureintro
      sl_unfold_run_names
      simp only [stepX, k3, ↓reduceIte, View.readAt_full (s := S64x1), View.readAt_full (s := S64x16384), View.readAt_full (s := S17x64), View.readAt_full (s := S64x128), View.readAt_full (s := S1x128x16384), View.read_writes_full (s := S64x16384), View.read_writes_full (s := S1x17x16384), View.readAt_writes_full (s := S64x16384), View.readCov_full (s := S64x16384), store_put, View.writes_nil] <;> rfl
    isplitl [H9]
    · iexists _; isplitr; swap; · iexact H9
      ipureintro
      sl_unfold_run_names
      simp only [stepS, sqS, sumS, zeroS, k3, k4, k2, ↓reduceDIte, ↓reduceIte, View.readAt_full (s := S64x1), View.readAt_full (s := S64x16384), View.readAt_full (s := S17x64), View.readAt_full (s := S64x128), View.readAt_full (s := S1x128x16384), View.read_writes_full (s := S64x16384), View.read_writes_full (s := S1x17x16384), View.readAt_writes_full (s := S64x16384), View.readCov_full (s := S64x16384), store_put, load_window, load_cov, View.writes_nil] <;>
        first
        | with_reducible rfl
        | exact sums_of_cleared (F := F) i k3 _ _ _ _ _
        | exact congrArg (VecWindow.put _ _ _) (congrArg (k0_pay14 _ _) (second_past_first (F := F) i k3 _ _))
    isplitl [H10]
    · iexists _; isplitr; swap; · iexact H10
      ipureintro
      sl_unfold_run_names
      simp only [stepA, k1, k2, ↓reduceDIte, View.readAt_full (s := S64x1), View.readAt_full (s := S64x16384), View.readAt_full (s := S17x64), View.readAt_full (s := S64x128), View.readAt_full (s := S1x128x16384), View.read_writes_full (s := S64x16384), View.read_writes_full (s := S1x17x16384), View.readAt_writes_full (s := S64x16384), View.readCov_full (s := S64x16384)] <;> rfl
    iexists _; isplitr; swap; · iexact H11
    ipureintro
    sl_unfold_run_names
    simp only [stepC, k1, k2, ↓reduceDIte, View.readAt_full (s := S64x1), View.readAt_full (s := S64x16384), View.readAt_full (s := S17x64), View.readAt_full (s := S64x128), View.readAt_full (s := S1x128x16384), View.read_writes_full (s := S64x16384), View.read_writes_full (s := S1x17x16384), View.readAt_writes_full (s := S64x16384), View.readCov_full (s := S64x16384)] <;> rfl

end Cert.Proof.Body

end
-- ==== Proof.State.lean ====
/-
  What the scratch buffers of `KernelIdeal` hold between grid points, as plain vectors at any float instance. The grid's
  points are numbered `k = 4 * b + s`; at a point `k < 16` the body accumulates block `s` of batch `b`, and at a point
  `4 ≤ k` it emits block `s` of batch `b - 1`. `Inv k` names the buffers' contents before point `k`; `Inv.step` carries it
  over one body and `out_eq` says what the body writes out.
-/
module

public import proofs.«01_k».proof.Proof.Body
public import Idealize.ShloMosaic.Lib.Pointwise

@[expose] public section

set_option maxRecDepth 16384

noncomputable section

namespace Cert.Proof.State

open Cert.KernelIdeal Cert.KernelIdeal.Gen Cert.Proof.Body
open Idealize.ShloMosaic Idealize.ShloMosaic.TcCoe

variable {F : FTy → Type} [FloatOps F]

/-! ## The grid's points by number -/

/-- Point `k` of the grid (numbers past the last wrap round). -/
def pt (k : ℕ) : Fin grid0.N := ⟨k % 20, Nat.mod_lt _ (by decide)⟩

/-- Point `k`'s coordinates. -/
abbrev ci (k : ℕ) : grid0.Coords := grid0.coords (pt k)

theorem pt_val (t : Fin grid0.N) : pt t.val = t := Fin.ext (Nat.mod_eq_of_lt t.isLt)

/-- The four branches of the body, by point number. -/
theorem conds : ∀ k : Fin 20, (k0_cond1 (ci k) = 1#1 ↔ 4 ≤ k.val) ∧ (k0_cond2 (ci k) = 1#1 ↔ k.val % 4 = 0)
    ∧ (k0_cond3 (ci k) = 1#1 ↔ k.val < 16) ∧ (k0_cond4 (ci k) = 1#1 ↔ k.val % 4 = 0) := by decide +kernel

theorem cond1_iff {k : ℕ} (hk : k < 20) : k0_cond1 (ci k) = 1#1 ↔ 4 ≤ k := (conds ⟨k, hk⟩).1
theorem cond2_iff {k : ℕ} (hk : k < 20) : k0_cond2 (ci k) = 1#1 ↔ k % 4 = 0 := (conds ⟨k, hk⟩).2.1
theorem cond3_iff {k : ℕ} (hk : k < 20) : k0_cond3 (ci k) = 1#1 ↔ k < 16 := (conds ⟨k, hk⟩).2.2.1
theorem cond4_iff {k : ℕ} (hk : k < 20) : k0_cond4 (ci k) = 1#1 ↔ k % 4 = 0 := (conds ⟨k, hk⟩).2.2.2

/-- The block column written at point `k`. -/
theorem off4_col : ∀ k : Fin 20, k0_off4 (ci k) 2 = k.val % 4 * 16384 := by decide +kernel

/-- The block emitted at point `k` is the one written four points earlier. -/
theorem off2_eq : ∀ k : Fin 20, 4 ≤ k.val → k0_off2 (ci k) = k0_off4 (ci (k.val - 4)) := by decide +kernel

/-- The statistics read at a batch's first emitting point are the ones accumulated up to the point before. -/
theorem off1_eq : ∀ k : Fin 20, 4 ≤ k.val → k.val % 4 = 0 → k0_off1 (ci k) = k0_off3 (ci (k.val - 1)) := by decide +kernel

/-- Within a batch the statistics' slot stays. -/
theorem off56_eq : ∀ k : Fin 20, k.val % 4 ≠ 0 → k0_off5 (ci k) = k0_off5 (ci (k.val - 1)) ∧ k0_off6 (ci k) = k0_off6 (ci (k.val - 1)) := by decide +kernel

/-! ## What is accumulated -/

/-- A cleared statistics column. -/
def zcol : Vec F S1x64x1 .f32 := fun _ => Scalar.ofBits .f32 0x00000000#32

/-- The cleared slot is zero everywhere. -/
theorem pay10_apply (y : S1x64x2.Idx) : k0_pay10 (F := F) y = Scalar.ofBits .f32 0x00000000#32 := rfl

/-- A running statistic: `u k` folds point `k`'s block into what the batch's earlier points left, a cleared column at the batch's first. -/
def acc (u : ℕ → Vec F S1x64x1 .f32 → Vec F S1x64x1 .f32) : ℕ → Vec F S1x64x1 .f32
  | 0 => u 0 zcol
  | k + 1 => u (k + 1) (if (k + 1) % 4 = 0 then zcol else acc u k)

theorem acc_first (u : ℕ → Vec F S1x64x1 .f32 → Vec F S1x64x1 .f32) {k : ℕ} (h : k % 4 = 0) : acc u k = u k zcol := by
  cases k with
  | zero => rfl
  | succ k => rw [acc, if_pos h]

theorem acc_next (u : ℕ → Vec F S1x64x1 .f32 → Vec F S1x64x1 .f32) {k : ℕ} (h : k % 4 ≠ 0) : acc u k = u k (acc u (k - 1)) := by
  cases k with
  | zero => exact absurd rfl h
  | succ k => rw [acc, if_neg h]; rfl

/-- Two statistics columns side by side. -/
def pair (p q : Vec F S1x64x1 .f32) : Vec F S1x64x2 .f32 := fun y =>
  if (y 2).val = 0 then p (ix3 (y 0) (y 1) 0) else q (ix3 (y 0) (y 1) 0)

section Values

variable (f : ℕ → Vec F S1x128x16384 .f32) (w : Vec F S64x128 .bf16) (g b : Vec F S64x1 .f32) (w2 : Vec F S17x64 .bf16)

/-- The row sums up to point `k`, -/
def sum (k : ℕ) : Vec F S1x64x1 .f32 := acc (fun j => k0_pay13 (f j) w) k

/-- and the row sums of squares. -/
def sq (k : ℕ) : Vec F S1x64x1 .f32 := acc (fun j => k0_pay14 (f j) w) k

/-- Batch `n`'s finished statistics. -/
def stat (n : ℕ) : Vec F S1x64x2 .f32 := pair (sum f w (4 * n + 3)) (sq f w (4 * n + 3))

/-- Batch `n`'s multipliers, -/
def mult (n : ℕ) : Vec F S64x16384 .f32 := k0_pay4 k0_pay7 k0_pay8 k0_pay9 (stat f w n) g

/-- and offsets. -/
def shift (n : ℕ) : Vec F S64x16384 .f32 := k0_pay5 k0_pay7 k0_pay8 k0_pay9 (stat f w n) g b

/-- The block emitted at point `k`. -/
def out (k : ℕ) : Vec F S1x17x16384 .f32 := k0_pay6 (k0_pay12 (f (k - 4)) w) (mult f w g (k / 4 - 1)) (shift f w g b (k / 4 - 1)) w2

/-- What the scratch buffers hold before point `k`: the last four blocks' convolution results, the running statistics of the
    last point's batch, and within an emitting batch its multipliers and offsets. -/
structure Inv (k : ℕ) (X : Vec F S2x64x65536 .bf16) (ST : Vec F S2x64x2 .f32) (A C : Vec F S64x16384 .f32) : Prop where
  x : ∀ j, j < 16 → j < k → k ≤ j + 4 → ∀ inb, VecWindow.window (s := S2x64x65536) X (k0_off4 (ci j)) S1x64x16384.size inb = k0_pay12 (f j) w
  s0 : ∀ j, j < 16 → k = j + 1 → ∀ inb, VecWindow.window (s := S2x64x2) ST (k0_off5 (ci j)) S1x64x1.size inb = sum f w j
  s1 : ∀ j, j < 16 → k = j + 1 → ∀ inb, VecWindow.window (s := S2x64x2) ST (k0_off6 (ci j)) S1x64x1.size inb = sq f w j
  a : 4 ≤ k → k % 4 ≠ 0 → A = mult f w g (k / 4 - 1)
  c : 4 ≤ k → k % 4 ≠ 0 → C = shift f w g b (k / 4 - 1)

/-- Before the first point nothing is asked. -/
theorem Inv.zero (X : Vec F S2x64x65536 .bf16) (ST : Vec F S2x64x2 .f32) (A C : Vec F S64x16384 .f32) : Inv f w g b 0 X ST A C :=
  ⟨fun _ _ h => absurd h (Nat.not_lt_zero _), fun _ _ h => absurd h (Nat.succ_ne_zero _).symm, fun _ _ h => absurd h (Nat.succ_ne_zero _).symm,
    fun h => absurd h (by decide), fun h => absurd h (by decide)⟩

variable {f w g b}

variable {k : ℕ} {X : Vec F S2x64x65536 .bf16} {ST : Vec F S2x64x2 .f32} {A C : Vec F S64x16384 .f32}

/-- The convolution results are kept: the block just put, and those of the three points before it, which lie in other columns. -/
theorem x_step (hk : k < 20) (H : Inv f w g b k X ST A C) (j : ℕ) (hj : j < 16) (hjk : j < k + 1) (hkj : k + 1 ≤ j + 4) (inb) :
    VecWindow.window (s := S2x64x65536) (stepX (ci k) (f k) w X) (k0_off4 (ci j)) S1x64x16384.size inb = k0_pay12 (f j) w := by
  unfold stepX
  by_cases h3 : k0_cond3 (ci k) = 1#1
  · rw [if_pos h3]
    by_cases e : j = k
    · subst e; exact VecWindow.window_put_same _ _ _ _ _
    · have h4 := off4_col ⟨k, hk⟩
      have h4' := off4_col ⟨j, by omega⟩
      dsimp only at h4 h4'
      refine (VecWindow.window_put_of_disjoint _ _ _ _ _ _ _ (2 : Fin 3) ?_).trans (H.x j hj (by omega) (by omega) inb)
      rw [h4, h4']
      show j % 4 * 16384 + 16384 ≤ k % 4 * 16384 ∨ k % 4 * 16384 + 16384 ≤ j % 4 * 16384
      omega
  · rw [if_neg h3]
    have : ¬ k < 16 := fun h => h3 ((cond3_iff hk).2 h)
    exact H.x j hj (by omega) (by omega) inb

/-- The first statistics column as the accumulating body finds it, -/
theorem zero0 (hk : k < 16) (H : Inv f w g b k X ST A C) (inb) :
    VecWindow.window (s := S2x64x2) (zeroS (ci k) ST) (k0_off5 (ci k)) S1x64x1.size inb = if k % 4 = 0 then zcol else sum f w (k - 1) := by
  unfold zeroS
  by_cases h : k % 4 = 0
  · rw [if_pos h, if_pos ((cond4_iff (by omega)).2 h)]
    exact (VecWindow.window_put_of_inside _ _ _ _ _ _ _ (off5_in (ci k))).trans (funext fun y => pay10_apply _)
  · rw [if_neg h, if_neg (fun h' => h ((cond4_iff (by omega)).1 h'))]
    have e := (off56_eq ⟨k, by omega⟩ h).1
    dsimp only at e
    have := H.s0 (k - 1) (by omega) (by omega)
    rw [← e] at this
    exact this inb

/-- and the second. -/
theorem zero1 (hk : k < 16) (H : Inv f w g b k X ST A C) (inb) :
    VecWindow.window (s := S2x64x2) (zeroS (ci k) ST) (k0_off6 (ci k)) S1x64x1.size inb = if k % 4 = 0 then zcol else sq f w (k - 1) := by
  unfold zeroS
  by_cases h : k % 4 = 0
  · rw [if_pos h, if_pos ((cond4_iff (by omega)).2 h)]
    exact (VecWindow.window_put_of_inside _ _ _ _ _ _ _ (off6_in (ci k))).trans (funext fun y => pay10_apply _)
  · rw [if_neg h, if_neg (fun h' => h ((cond4_iff (by omega)).1 h'))]
    have e := (off56_eq ⟨k, by omega⟩ h).2
    dsimp only at e
    have := H.s1 (k - 1) (by omega) (by omega)
    rw [← e] at this
    exact this inb

/-- One more point of a running statistic. -/
theorem acc_step (u : ℕ → Vec F S1x64x1 .f32 → Vec F S1x64x1 .f32) (k : ℕ) : u k (if k % 4 = 0 then zcol else acc u (k - 1)) = acc u k := by
  by_cases h : k % 4 = 0
  · rw [if_pos h, acc_first u h]
  · rw [if_neg h, acc_next u h]

/-- The first statistics column after the accumulating body, -/
theorem s0_step (hk : k < 16) (H : Inv f w g b k X ST A C) (inb) :
    VecWindow.window (s := S2x64x2) (stepS (ci k) (f k) w ST) (k0_off5 (ci k)) S1x64x1.size inb = sum f w k := by
  unfold stepS
  rw [dif_pos ((cond3_iff (by omega)).2 hk)]
  unfold sqS
  refine (VecWindow.window_put_of_disjoint _ _ _ _ _ _ _ (2 : Fin 3) (Or.inl (le_refl 1))).trans ?_
  unfold sumS
  refine (VecWindow.window_put_same _ _ _ _ _).trans ?_
  rw [zero0 hk H]
  exact acc_step (fun j => k0_pay13 (f j) w) k

/-- and the second. -/
theorem s1_step (hk : k < 16) (H : Inv f w g b k X ST A C) (inb) :
    VecWindow.window (s := S2x64x2) (stepS (ci k) (f k) w ST) (k0_off6 (ci k)) S1x64x1.size inb = sq f w k := by
  have h3 := (cond3_iff (k := k) (by omega)).2 hk
  unfold stepS
  rw [dif_pos h3]
  unfold sqS
  refine (VecWindow.window_put_same _ _ _ _ _).trans ?_
  unfold sumS
  rw [← second_past_first (ci k) h3, zero1 hk H]
  exact acc_step (fun j => k0_pay14 (f j) w) k

/-- A vector of two statistics columns is the pair of its windows. -/
theorem pair_of_windows (y : Vec F S2x64x2 .f32) (i : grid0.Coords) (h : k0_cond3 i = 1#1) (off : Fin 3 → ℕ) (e : off = k0_off3 i) (inb) :
    VecWindow.window (s := S2x64x2) y off S1x64x2.size inb
      = pair (VecWindow.window (s := S2x64x2) y (k0_off5 i) S1x64x1.size (k0_off5_inb i h)) (VecWindow.window (s := S2x64x2) y (k0_off6 i) S1x64x1.size (k0_off6_inb i h)) := by
  subst e
  funext z
  unfold pair VecWindow.window
  have hz : (z 2).val < 2 := (z 2).isLt
  split
  · next h0 =>
    refine congrArg y (funext fun a => Fin.ext ?_)
    match a with
    | 0 => rfl
    | 1 => rfl
    | 2 => show 0 + 1 * (z 2).val = 0 + 1 * 0; omega
  · next h0 =>
    refine congrArg y (funext fun a => Fin.ext ?_)
    match a with
    | 0 => rfl
    | 1 => rfl
    | 2 => show 0 + 1 * (z 2).val = 1 + 1 * 0; omega

/-- At a batch's first emitting point the statistics read are the batch's finished ones. -/
theorem stat_eq (hk : k < 20) (h4 : 4 ≤ k) (h0 : k % 4 = 0) (H : Inv f w g b k X ST A C) (inb) :
    VecWindow.window (s := S2x64x2) ST (k0_off1 (ci k)) S1x64x2.size inb = stat f w (k / 4 - 1) := by
  have h3 : k0_cond3 (ci (k - 1)) = 1#1 := (cond3_iff (by omega)).2 (by omega)
  rw [pair_of_windows ST (ci (k - 1)) h3 _ (off1_eq ⟨k, hk⟩ h4 h0), H.s0 (k - 1) (by omega) (by omega), H.s1 (k - 1) (by omega) (by omega), stat,
    show 4 * (k / 4 - 1) + 3 = k - 1 by omega]

/-- The multipliers after an emitting body are its batch's, -/
theorem a_step (hk : k < 20) (h4 : 4 ≤ k) (H : Inv f w g b k X ST A C) : stepA (ci k) g ST A = mult f w g (k / 4 - 1) := by
  unfold stepA
  rw [dif_pos ((cond1_iff hk).2 h4)]
  by_cases h0 : k % 4 = 0
  · rw [dif_pos ((cond2_iff hk).2 h0), stat_eq hk h4 h0 H]; rfl
  · rw [dif_neg (fun h => h0 ((cond2_iff hk).1 h))]; exact H.a h4 h0

/-- and so are the offsets. -/
theorem c_step (hk : k < 20) (h4 : 4 ≤ k) (H : Inv f w g b k X ST A C) : stepC (ci k) g b ST C = shift f w g b (k / 4 - 1) := by
  unfold stepC
  rw [dif_pos ((cond1_iff hk).2 h4)]
  by_cases h0 : k % 4 = 0
  · rw [dif_pos ((cond2_iff hk).2 h0), stat_eq hk h4 h0 H]; rfl
  · rw [dif_neg (fun h => h0 ((cond2_iff hk).1 h))]; exact H.c h4 h0

/-- One body carries the buffers' contents to the next point. -/
theorem Inv.step (hk : k < 20) (H : Inv f w g b k X ST A C) :
    Inv f w g b (k + 1) (stepX (ci k) (f k) w X) (stepS (ci k) (f k) w ST) (stepA (ci k) g ST A) (stepC (ci k) g b ST C) where
  x := x_step hk H
  s0 j hj e inb := by obtain rfl : k = j := by omega
                      exact s0_step hj H inb
  s1 j hj e inb := by obtain rfl : k = j := by omega
                      exact s1_step hj H inb
  a h4 h0 := by rw [a_step hk (by omega) H, show (k + 1) / 4 = k / 4 by omega]
  c h4 h0 := by rw [c_step hk (by omega) H, show (k + 1) / 4 = k / 4 by omega]

/-- An emitting body writes its point's block. -/
theorem out_eq (hk : k < 20) (h4 : 4 ≤ k) (H : Inv f w g b k X ST A C) (w2 : Vec F S17x64 .bf16) (o : Vec F S1x17x16384 .f32) :
    stepO (ci k) X (stepA (ci k) g ST A) (stepC (ci k) g b ST C) w2 o = out f w g b w2 k := by
  have h1 := (cond1_iff hk).2 h4
  have hx : VecWindow.window (s := S2x64x65536) X (k0_off2 (ci k)) S1x64x16384.size (k0_off2_inb _ h1) = k0_pay12 (f (k - 4)) w := by
    have e : k0_off2 (ci k) = k0_off4 (ci (k - 4)) := off2_eq ⟨k, hk⟩ h4
    have := H.x (k - 4) (by omega) (by omega) (by omega)
    rw [← e] at this
    exact this _
  unfold stepO out
  rw [dif_pos h1, hx, a_step hk h4 H, c_step hk h4 H]

/-- A body that does not emit leaves the output's buffer as it was. -/
theorem out_idle (hk : k < 20) (h4 : k < 4) (x : Vec F S2x64x65536 .bf16) (a c : Vec F S64x16384 .f32) (w2 : Vec F S17x64 .bf16) (o : Vec F S1x17x16384 .f32) :
    stepO (ci k) x a c w2 o = o := by
  unfold stepO
  rw [dif_neg (fun h => absurd ((cond1_iff hk).1 h) (by omega))]

end Values

end Cert.Proof.State

end
-- ==== Proof.Launch.lean ====
/-
  The launch of `KernelIdeal` at any float instance: the pipeline's proof data over `State.Inv`, the body obligation at a
  generic point, and the run, with the output array after it (`run`).
-/
module

public import proofs.«01_k».proof.Proof.State
public import Idealize.ShloMosaic.Lib.Pipeline.ValueKit

@[expose] public section

set_option maxRecDepth 16384

noncomputable section

namespace Cert.Proof.Launch

open Cert.KernelIdeal Cert.KernelIdeal.Gen Cert.Proof.Body Cert.Proof.State
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values the invariant is over -/

/-- The input blocks by point number, -/
def fb (c : Dev nD) (k : ℕ) : Vec F S1x128x16384 .f32 := iblk m c 0 (pt k)

/-- and the operands whose one block is the whole array: the first weights, -/
def wb (c : Dev nD) : Vec F S64x128 .bf16 := iblk m c 1 (pt 0)

/-- the scales, -/
def gb (c : Dev nD) : Vec F S64x1 .f32 := iblk m c 2 (pt 0)

/-- the biases, -/
def bb (c : Dev nD) : Vec F S64x1 .f32 := iblk m c 3 (pt 0)

/-- and the second weights. -/
def vb (c : Dev nD) : Vec F S17x64 .bf16 := iblk m c 4 (pt 0)

theorem iblk0_eq (c : Dev nD) (t : Fin cfg0.N) : iblk m c 0 t = fb m c t.val := by unfold fb; rw [pt_val]
theorem iblk1_eq (c : Dev nD) (t : Fin cfg0.N) : iblk m c 1 t = wb m c := rfl
theorem iblk2_eq (c : Dev nD) (t : Fin cfg0.N) : iblk m c 2 t = gb m c := rfl
theorem iblk3_eq (c : Dev nD) (t : Fin cfg0.N) : iblk m c 3 t = bb m c := rfl
theorem iblk4_eq (c : Dev nD) (t : Fin cfg0.N) : iblk m c 4 t = vb m c := rfl

/-- The block the body leaves in the output's buffer at point `k`. -/
def ob (c : Dev nD) (k : ℕ) : Vec F S1x17x16384 .f32 := out (fb m c) (wb m c) (gb m c) (bb m c) (vb m c) k

/-! ## The pipeline's proof data -/

/-- The scratch buffers before point `k`, at contents the invariant names, with the generator register. -/
def scratch (c : Dev nD) (k : ℕ) : sProp 𝕄 :=
  iprop(∃ X ST A C, ⌜Inv (fb m c) (wb m c) (gb m c) (bb m c) k X ST A C⌝
    ∗ owns (c : Thread nD τ) (Memref.whole cc0_scratch0) fullShare X ∗ owns (c : Thread nD τ) (Memref.whole cc0_scratch1) fullShare ST
    ∗ owns (c : Thread nD τ) (Memref.whole cc0_scratch2) fullShare A ∗ owns (c : Thread nD τ) (Memref.whole cc0_scratch3) fullShare C
    ∗ ∃ r, prngReg c r)

/-- The proof data of the one pipeline on core `c`: the arrays as the region finds them; after the body each input's buffer
    at its block and the output's at the block emitted; the scratch buffers at the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => ob m c t.val
  Φ t := scratch m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = ob m c t.val := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- what it owes of the output's buffer: nothing new at an idle point, the emitted block at any other, -/
def post5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ post5 m c t)

/-- The output's buffer is idle at the first four points and is not written back there. -/
theorem idle_flush : ∀ t : Fin grid0.N, (t.val < 4 → cfg0.idle 5 (cfg0.grid.coords t) = true ∧ (cfg0.win 5).flush t = false)
    ∧ (4 ≤ t.val → cfg0.idle 5 (cfg0.grid.coords t) = false) := by decide +kernel

theorem post5_idle (c : Dev nD) (t : Fin cfg0.N) (h : t.val < 4) :
    post5 m c t = iprop(∃ d, owns (c : Thread nD τ) (st0_5 t) fullShare ((dats m 0 c).before 5 t d)) := by
  unfold post5; rw [((idle_flush t).1 h).1, ((idle_flush t).1 h).2]

theorem post5_emit (c : Dev nD) (t : Fin cfg0.N) (h : 4 ≤ t.val) :
    post5 m c t = owns (c : Thread nD τ) (st0_5 t) fullShare (ob m c t.val) := by
  unfold post5; rw [(idle_flush t).2 h, after0_5]

/-- The body leaves what is owed of the output's buffer. -/
theorem post5_of (c : Dev nD) (t : Fin cfg0.N) {X : Vec F S2x64x65536 .bf16} {ST : Vec F S2x64x2 .f32} {A C : Vec F S64x16384 .f32}
    (H : Inv (fb m c) (wb m c) (gb m c) (bb m c) t.val X ST A C) (d) :
    owns (c : Thread nD τ) (st0_5 t) fullShare (stepO (grid0.coords t) X (stepA (grid0.coords t) (gb m c) ST A) (stepC (grid0.coords t) (gb m c) (bb m c) ST C)
      (vb m c) ((dats m 0 c).before 5 t d)) ⊢ post5 m c t := by
  have hi : grid0.coords t = ci t.val := by unfold ci; rw [pt_val]
  by_cases h : t.val < 4
  · rw [post5_idle m c t h, hi, out_idle t.isLt h]
    iintro H; iexists d; iexact H
  · rw [post5_emit m c t (by omega), hi, out_eq t.isLt (by omega) H]
    iintro H; iexact H

/-- The body at any point: the inputs' memrefs hold their blocks and the scratch buffers the invariant, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3, after0_4, iblk0_eq, iblk1_eq, iblk2_eq, iblk3_eq, iblk4_eq]
  unfold scratch
  iintro ⟨⟨%X, %ST, %A, %C, %H, S0, S1, S2, S3, Hg⟩, Ho, ⟨%d0, H0⟩, ⟨%d1, H1⟩, ⟨%d2, H2⟩, ⟨%d3, H3⟩, ⟨%d4, H4⟩, ⟨%d5, H5⟩⟩
  have hi : grid0.coords t = ci t.val := by unfold ci; rw [pt_val]
  iapply (sound_kernel c (grid0.coords t) _ _ _ _ _ _ _ _ _ _ _ _ _ _ _ _ _ _ _ _ (fb m c t.val) (wb m c) (gb m c) (bb m c) (vb m c)
    ((dats m 0 c).before 5 t d5) X ST A C _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [Hg S0 S1 S2 S3]
  · iexists _; iexists _; iexists _; iexists _
    isplitr
    · ipureintro
      have := H.step t.isLt
      rw [← hi] at this
      exact this
    isplitl [S0]; · iexact S0
    isplitl [S1]; · iexact S1
    isplitl [S2]; · iexact S2
    isplitl [S3]; · iexact S3
    iexact Hg
  isplitl [Ho]; · iexact Ho
  isplitl [H0]; · iexact H0
  isplitl [H1]; · iexact H1
  isplitl [H2]; · iexact H2
  isplitl [H3]; · iexact H3
  isplitl [H4]; · iexact H4
  iapply (post5_of m c t H d5)
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The scratch buffers at the region's ends -/

/-- A buffer held at given contents, as its whole memref. -/
theorem whole_of (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_whole_eq]
  iintro H; iexists f; isplitr; · ipureintro; rfl
  iexact H

/-- A whole memref held at some contents is its buffer held at some contents. -/
theorem of_whole (c : Dev nD) (b : Ref sig .tc) (x : b.ty.shape.Idx → Elt F b.ty.elt) :
    owns (c : Thread nD τ) (Memref.whole b) fullShare x ⊢ (iprop(∃ f : Buf (Elt F) ((c : Thread nD τ).loc b), ((c : Thread nD τ).loc b) ↦{fullShare} f) : sProp 𝕄) := by
  rw [owns_whole_eq]
  iintro ⟨%f, %hf, H⟩; iexists f; iexact H

/-- The region is entered with the scratch buffers at anything, where the invariant asks nothing. -/
theorem scratch_in (c : Dev nD) : Pipeline.ΦA spec0 c ⊢ (scratch m c 0 : sProp 𝕄) := by
  unfold Pipeline.ΦA scratch
  rw [scopedRest0_eq]
  iintro ⟨⟨⟨%f0, S0⟩, ⟨%f1, S1⟩, ⟨%f2, S2⟩, ⟨%f3, S3⟩⟩, Hg⟩
  iexists f0; iexists f1; iexists f2; iexists f3
  isplitr; · ipureintro; exact Inv.zero _ _ _ _ _ _ _ _
  isplitl [S0]; · iapply whole_of; iexact S0
  isplitl [S1]; · iapply whole_of; iexact S1
  isplitl [S2]; · iapply whole_of; iexact S2
  isplitl [S3]; · iapply whole_of; iexact S3
  iexact Hg

/-- It is left with them at anything. -/
theorem scratch_out (c : Dev nD) (k : ℕ) : (scratch m c k : sProp 𝕄) ⊢ Pipeline.ΦA spec0 c := by
  unfold Pipeline.ΦA scratch
  rw [scopedRest0_eq]
  iintro ⟨%X, %ST, %A, %C, %H, S0, S1, S2, S3, Hg⟩
  isplitl [S0 S1 S2 S3]
  · isplitl [S0]; · iapply (of_whole c cc0_scratch0 X); iexact S0
    isplitl [S1]; · iapply (of_whole c cc0_scratch1 ST); iexact S1
    isplitl [S2]; · iapply (of_whole c cc0_scratch2 A); iexact S2
    iapply (of_whole c cc0_scratch3 C); iexact S3
  iexact Hg

/-! ## The run -/

set_option backward.isDefEq.respectTransparency.types false in
/-- The run of the kernel, to the library's post over the proof data, with every semaphore at zero. -/
theorem run : θ_run defs (onTc (τ := τ) (main (F := F))) ⟨m, fun _ => 0, ρ⟩ (fun r =>
      Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (body_obligation m) (fun c => (dats m 0 c).share_full fun _ => rfl) (fun _ _ => rfl) (V0 m) [hostOps1]
    sfx_sub sfx_fresh sfx_keeps (hmain m Variants.none) (A_eq m) (scratch_in m) (fun c => scratch_out m c _) _ (fun _ h => h)

/-- The argument arrays after the run are the ones launched. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have rest := fun b hb => (h c).2 b hb
  refine ⟨?_, ?_, ?_, ?_, ?_⟩
  · exact (rest _ (Pipeline.mem_restRefs_of _ (by decide) (by decide))).trans (W_main_arg0 m (dats m) c)
  · exact (rest _ (Pipeline.mem_restRefs_of _ (by decide) (by decide))).trans (W_main_arg1 m (dats m) c)
  · exact (rest _ (Pipeline.mem_restRefs_of _ (by decide) (by decide))).trans (W_main_arg2 m (dats m) c)
  · exact (rest _ (Pipeline.mem_restRefs_of _ (by decide) (by decide))).trans (W_main_arg3 m (dats m) c)
  · exact (rest _ (Pipeline.mem_restRefs_of _ (by decide) (by decide))).trans (W_main_arg4 m (dats m) c)

/-- THE FRAME: the kernel runs to its end with its arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run m ρ)

end Cert.Proof.Launch

end
-- ==== Proof.Spec.lean ====
/-
  The kernel's and the reference's results as plain expressions over extended reals, of the five argument arrays: a
  one-by-one convolution (`conv`), group normalization over pairs of channels, a rectifier and a second one-by-one
  convolution. `fused` normalizes by one multiplier and one offset per channel, taken from the sums and the sums of
  squares; `normed` subtracts the mean and divides by the square root of the mean squared deviation.
-/
module

public import Idealize.ShloMosaic.Lib.Pointwise

@[expose] public section

noncomputable section

namespace Cert.Proof.Spec

open Idealize.ShloMosaic

variable (feat : (⟨4, ![4, 128, 256, 256]⟩ : Shape).Idx → EReal) (w1 : (⟨2, ![64, 128]⟩ : Shape).Idx → EReal)
  (scale bias : (⟨1, ![64]⟩ : Shape).Idx → EReal) (w2 : (⟨2, ![17, 64]⟩ : Shape).Idx → EReal)

/-- The number of elements of a group, as the programs write it, -/
def count : EReal := Ideal.ofBits .f32 0x48000000#32

/-- and the term added to the variance. -/
def eps : EReal := Ideal.ofBits .f32 0x3727C5AC#32

/-- The first convolution. -/
def conv (b : Fin 4) (ch : Fin 64) (y x : Fin 256) : EReal := ∑ k : Fin 128, w1 (ix2 ch k) * feat (ix4 b k y x)

/-- The `j`-th channel of channel `ch`'s group. -/
def mate (ch : Fin 64) (j : Fin 2) : Fin 64 := ⟨ch.val / 2 * 2 + j.val, by omega⟩

/-- The sum of a function of a channel's pixels over its group. -/
def over (f : Fin 64 → Fin 256 → Fin 256 → EReal) (ch : Fin 64) : EReal := ∑ j : Fin 2, ∑ y : Fin 256, ∑ x : Fin 256, f (mate ch j) y x

/-- The group's mean. -/
def mean (b : Fin 4) (ch : Fin 64) : EReal := Ideal.div (over (conv feat w1 b) ch) count

/-- The group's mean square. -/
def msq (b : Fin 4) (ch : Fin 64) : EReal := Ideal.div (over (fun d y x => conv feat w1 b d y x * conv feat w1 b d y x) ch) count

/-- The group's mean squared deviation. -/
def var (b : Fin 4) (ch : Fin 64) : EReal :=
  Ideal.div (over (fun d y x => (conv feat w1 b d y x - mean feat w1 b ch) * (conv feat w1 b d y x - mean feat w1 b ch)) ch) count

/-- The channel's multiplier, -/
def mult (b : Fin 4) (ch : Fin 64) : EReal :=
  scale (ix1 ch) * Ideal.rsqrt (msq feat w1 b ch - mean feat w1 b ch * mean feat w1 b ch + eps)

/-- and its offset. -/
def shift (b : Fin 4) (ch : Fin 64) : EReal := bias (ix1 ch) - mean feat w1 b ch * mult feat w1 scale b ch

/-- The result with the normalization as one multiplier and one offset, -/
def fused (b : Fin 4) (o : Fin 17) (y x : Fin 256) : EReal :=
  ∑ ch : Fin 64, w2 (ix2 o ch) * max (mult feat w1 scale b ch * conv feat w1 b ch y x + shift feat w1 scale bias b ch) 0

/-- and with the normalization written out. -/
def normed (b : Fin 4) (o : Fin 17) (y x : Fin 256) : EReal :=
  ∑ ch : Fin 64, w2 (ix2 o ch)
    * max (Ideal.div (conv feat w1 b ch y x - mean feat w1 b ch) (Ideal.sqrt (var feat w1 b ch + eps)) * scale (ix1 ch) + bias (ix1 ch)) 0

end Cert.Proof.Spec

end
-- ==== Proof.KernelValue.lean ====
/-
  What `KernelIdeal` computes over extended reals: the payloads at an index, the running statistics as sums over a group,
  the emitted block and the output array as `Spec.fused` of the argument arrays (`run_value`).
-/
module

public import proofs.«01_k».proof.Proof.Launch
public import proofs.«01_k».proof.Proof.Spec
public import Idealize.ShloMosaic.Lib.Pointwise
public import Idealize.ShloMosaic.Lib.Pipeline.ValueKit
public import Idealize.ShloMosaic.Lib.Claim

@[expose] public section

set_option maxRecDepth 16384

noncomputable section

namespace Cert.Proof.KernelValue

open Cert.KernelIdeal Cert.KernelIdeal.Gen Cert.Proof.Body Cert.Proof.State Cert.Proof.Launch
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-! ## The operands' blocks -/

/-- The row of pixel `p` of block `s`, -/
def row (s : Fin 4) (p : Fin 16384) : Fin 256 := ⟨s.val * 64 + p.val / 256, by omega⟩

/-- and its column. -/
def col (p : Fin 16384) : Fin 256 := ⟨p.val % 256, by omega⟩

/-- The block each window stages, by point number. -/
theorem idx : ∀ t : Fin cfg0.N, (t.val < 16 → win0_0.index t = ![t.val / 4, 0, t.val % 4]) ∧ win0_1.index t = ![0, 0] ∧ win0_2.index t = ![0, 0]
    ∧ win0_3.index t = ![0, 0] ∧ win0_4.index t = ![0, 0] ∧ (4 ≤ t.val → win0_5.index t = ![t.val / 4 - 1, 0, t.val % 4]) :=
  (by decide +kernel : ∀ t : Fin grid0.N, _)

theorem V_feat (c : Dev nD) : V m c main_call0_v0 = shapeCast S4x128x65536 (m ((c : Thread nD τ).loc main_arg0)) shapeCasts_S4x128x256x256_S4x128x65536 := by
  entry_read; rfl
theorem V_scale (c : Dev nD) : V m c main_call0_v1 = shapeCast S64x1 (m ((c : Thread nD τ).loc main_arg2)) shapeCasts_S64_S64x1 := by
  entry_read; rfl
theorem V_bias (c : Dev nD) : V m c main_call0_v2 = shapeCast S64x1 (m ((c : Thread nD τ).loc main_arg3)) shapeCasts_S64_S64x1 := by
  entry_read; rfl
theorem V_w1 (c : Dev nD) : V m c main_call0_v3 = m ((c : Thread nD τ).loc main_arg1) := by
  entry_read; rfl
theorem V_w2 (c : Dev nD) : V m c main_call0_v4 = m ((c : Thread nD τ).loc main_arg4) := by
  entry_read; rfl

/-- An input block at a pixel is the feature array there. -/
theorem fb_at (c : Dev nD) (n s : Fin 4) (k : Fin 128) (p : Fin 16384) :
    fb m c (4 * n.val + s.val) (ix3 0 k p) = m ((c : Thread nD τ).loc main_arg0) (ix4 n k (row s p) (col p)) := by
  unfold fb
  have ht : (pt (4 * n.val + s.val)).val = 4 * n.val + s.val := Nat.mod_eq_of_lt (by omega)
  have hx := (idx (pt (4 * n.val + s.val))).1 (by omega)
  generalize pt (4 * n.val + s.val) = t at *
  have e : iblk m c 0 t (ix3 0 k p) = V m c main_call0_v0 (ix3 n k ⟨s.val * 16384 + p.val, by omega⟩) := by
    blk_ext [iblk, hx]
  rw [e, V_feat]
  pointwise
  congr 2
  · exact Fin.ext (by simp only [row]; omega)
  · exact Fin.ext (by simp only [col]; omega)

theorem wb_at (c : Dev nD) (i : Fin 64) (k : Fin 128) : wb m c (ix2 i k) = m ((c : Thread nD τ).loc main_arg1) (ix2 i k) := by
  rw [← V_w1 m]
  unfold wb
  blk_ext [iblk, idx]

theorem gb_at (c : Dev nD) (i : Fin 64) : gb m c (ix2 i 0) = m ((c : Thread nD τ).loc main_arg2) (ix1 i) := by
  have e : gb m c (ix2 i 0) = V m c main_call0_v1 (ix2 i 0) := by unfold gb; blk_ext [iblk, idx]
  rw [e, V_scale]
  pointwise

theorem bb_at (c : Dev nD) (i : Fin 64) : bb m c (ix2 i 0) = m ((c : Thread nD τ).loc main_arg3) (ix1 i) := by
  have e : bb m c (ix2 i 0) = V m c main_call0_v2 (ix2 i 0) := by unfold bb; blk_ext [iblk, idx]
  rw [e, V_bias]
  pointwise

theorem vb_at (c : Dev nD) (i : Fin 17) (k : Fin 64) : vb m c (ix2 i k) = m ((c : Thread nD τ).loc main_arg4) (ix2 i k) := by
  rw [← V_w2 m]
  unfold vb
  blk_ext [iblk, idx]

end Cert.Proof.KernelValue

end
-- ==== Proof.KernelSums.lean ====
/-
  The statistics and the emitted block of `KernelIdeal` over extended reals: four blocks' row sums are a channel's sum over
  all pixels, the mask's product adds up a group's channels, and the emitted block is `Spec.fused` at the block's pixels.
-/
module

public import proofs.«01_k».proof.Proof.KernelValue

@[expose] public section

set_option maxRecDepth 16384

noncomputable section

namespace Cert.Proof.KernelValue

open Cert.KernelIdeal Cert.KernelIdeal.Gen Cert.Proof.Body Cert.Proof.State Cert.Proof.Launch
open Idealize.ShloMosaic Idealize.ShloMosaic.TcCoe Idealize.ShloMosaic.Tactic Idealize.SL.Sem

variable (m : (ℓ : Loc nD τ sig) → Buf (Elt Ideal) ℓ)

/-- The argument arrays of core `c`: the features, -/
abbrev feat (c : Dev nD) : (⟨4, ![4, 128, 256, 256]⟩ : Shape).Idx → EReal := m ((c : Thread nD τ).loc main_arg0)
/-- the first weights, -/
abbrev w1 (c : Dev nD) : (⟨2, ![64, 128]⟩ : Shape).Idx → EReal := m ((c : Thread nD τ).loc main_arg1)
/-- the scales, -/
abbrev scale (c : Dev nD) : (⟨1, ![64]⟩ : Shape).Idx → EReal := m ((c : Thread nD τ).loc main_arg2)
/-- the biases, -/
abbrev bias (c : Dev nD) : (⟨1, ![64]⟩ : Shape).Idx → EReal := m ((c : Thread nD τ).loc main_arg3)
/-- and the second weights. -/
abbrev w2 (c : Dev nD) : (⟨2, ![17, 64]⟩ : Shape).Idx → EReal := m ((c : Thread nD τ).loc main_arg4)

/-! ## Sums over the pixels -/

/-- The four blocks' pixels are all the pixels. -/
theorem pixels (h : Fin 256 → Fin 256 → EReal) : ∑ s : Fin 4, ∑ p : Fin 16384, h (row s p) (col p) = ∑ y, ∑ x, h y x := by
  rw [Fin.sum_univ_tiles 4 64 (by decide) (fun y => ∑ x, h y x)]
  refine Finset.sum_congr rfl fun s _ => ?_
  rw [Fin.sum_univ_tiles 64 256 (by decide) (fun p : Fin 16384 => h (row s p) (col p))]
  refine Finset.sum_congr rfl fun r _ => Finset.sum_congr rfl fun x _ => ?_
  congr 1
  · exact Fin.ext (by simp only [row]; omega)
  · exact Fin.ext (by simp only [col]; omega)

/-- A statistic after a batch's four points is the sum of what the points add. -/
theorem acc_four (u : ℕ → Vec Ideal S1x64x1 .f32 → Vec Ideal S1x64x1 .f32) (g : Fin 4 → EReal) (n : ℕ) (ch : Fin 64)
    (hu : ∀ (s : Fin 4) v, u (4 * n + s.val) v (ix3 0 ch 0) = v (ix3 0 ch 0) + g s) : acc u (4 * n + 3) (ix3 0 ch 0) = ∑ s, g s := by
  have h0 := hu 0; have h1 := hu 1; have h2 := hu 2; have h3 := hu 3
  simp only [Fin.val_zero, Fin.val_one, Fin.val_two, show (3 : Fin 4).val = 3 from rfl, Nat.add_zero] at h0 h1 h2 h3
  rw [acc_next u (by omega), h3, show 4 * n + 3 - 1 = 4 * n + 2 by omega, acc_next u (by omega), h2,
    show 4 * n + 2 - 1 = 4 * n + 1 by omega, acc_next u (by omega), h1, show 4 * n + 1 - 1 = 4 * n by omega, acc_first u (by omega), h0]
  have hz : (zcol (F := Ideal)) (ix3 0 ch 0) = 0 := by unfold zcol; pointwise
  rw [hz, zero_add, Fin.sum_univ_four]

/-! ## The convolution and its statistics -/

/-- The convolution's block is the convolution at the block's pixels, -/
theorem pay11_at (c : Dev nD) (n s : Fin 4) (ch : Fin 64) (p : Fin 16384) :
    k0_pay11 (fb m c (4 * n.val + s.val)) (wb m c) (ix2 ch p) = Spec.conv (feat m c) (w1 m c) n ch (row s p) (col p) := by
  have e : ∀ f w, k0_pay11 (F := Ideal) f w (ix2 ch p) = ∑ x, w (ix2 ch x) * f (ix3 0 x p) := fun f w => by pointwise [k0_pay11]
  rw [e]
  simp only [fb_at, wb_at]
  rfl

/-- and so is the block kept for the emitting batch. -/
theorem pay12_at (c : Dev nD) (n s : Fin 4) (ch : Fin 64) (p : Fin 16384) :
    k0_pay12 (fb m c (4 * n.val + s.val)) (wb m c) (ix3 0 ch p) = Spec.conv (feat m c) (w1 m c) n ch (row s p) (col p) := by
  have e : ∀ f w, k0_pay12 (F := Ideal) f w (ix3 0 ch p) = k0_pay11 f w (ix2 ch p) := fun f w => by pointwise [k0_pay12]
  rw [e, pay11_at]

/-- A batch's finished row sum is the sum over all pixels, -/
theorem sum_at (c : Dev nD) (n : Fin 4) (ch : Fin 64) : State.sum (fb m c) (wb m c) (4 * n.val + 3) (ix3 0 ch 0)
    = ∑ y, ∑ x, Spec.conv (feat m c) (w1 m c) n ch y x := by
  rw [← pixels, State.sum]
  refine acc_four _ _ _ _ fun s v => ?_
  have e : ∀ f w v, k0_pay13 (F := Ideal) f w v (ix3 0 ch 0) = v (ix3 0 ch 0) + ∑ x, k0_pay11 f w (ix2 ch x) := fun f w v => by pointwise [k0_pay13]
  rw [e]
  simp only [pay11_at]

/-- and its row sum of squares the sum of squares. -/
theorem sq_at (c : Dev nD) (n : Fin 4) (ch : Fin 64) : State.sq (fb m c) (wb m c) (4 * n.val + 3) (ix3 0 ch 0)
    = ∑ y, ∑ x, Spec.conv (feat m c) (w1 m c) n ch y x * Spec.conv (feat m c) (w1 m c) n ch y x := by
  rw [← pixels (fun y x => Spec.conv (feat m c) (w1 m c) n ch y x * Spec.conv (feat m c) (w1 m c) n ch y x), State.sq]
  refine acc_four _ _ _ _ fun s v => ?_
  have e : ∀ f w v, k0_pay14 (F := Ideal) f w v (ix3 0 ch 0) = v (ix3 0 ch 0) + ∑ x, k0_pay11 f w (ix2 ch x) * k0_pay11 f w (ix2 ch x) :=
    fun f w v => by pointwise [k0_pay14]
  rw [e]
  simp only [pay11_at]

/-! ## The group's sums -/

/-- The mask's word is one exactly between channels of one group. -/
theorem mask_word : ∀ i x : Fin 64, IntOp.cmpi .eq (k0_pay7 (ix2 i x)) (Scalar.select (k0_pay9 (ix2 i x)) (IntOp.subi (k0_pay8 (ix2 i x)) 1#32) (k0_pay8 (ix2 i x)))
    = if i.val / 2 = x.val / 2 then 1#1 else 0#1 := by decide +kernel

/-- The mask's product adds up the statistics of a group's channels. -/
theorem pay1_at (st : Vec Ideal S1x64x2 .f32) (i : Fin 64) (j : Fin 2) :
    k0_pay1 k0_pay7 k0_pay8 k0_pay9 st (ix2 i j) = ∑ e : Fin 2, st (ix3 0 (Spec.mate i e) j) := by
  have e : k0_pay1 (F := Ideal) k0_pay7 k0_pay8 k0_pay9 st (ix2 i j) = ∑ x, FloatOps.sitofp (F := Ideal) .f32 (BitVec.setWidth 32 (IntOp.cmpi .eq (k0_pay7 (ix2 i x))
      (Scalar.select (k0_pay9 (ix2 i x)) (IntOp.subi (k0_pay8 (ix2 i x)) 1#32) (k0_pay8 (ix2 i x))))) * st (ix3 0 x j) := by pointwise [k0_pay1]
  rw [e]
  have hw : ∀ x : Fin 64, FloatOps.sitofp (F := Ideal) .f32 (BitVec.setWidth 32 (IntOp.cmpi .eq (k0_pay7 (ix2 i x))
      (Scalar.select (k0_pay9 (ix2 i x)) (IntOp.subi (k0_pay8 (ix2 i x)) 1#32) (k0_pay8 (ix2 i x))))) * st (ix3 0 x j)
      = if i.val / 2 = x.val / 2 then st (ix3 0 x j) else 0 := fun x => by
    rw [mask_word]
    split
    · have : FloatOps.sitofp (F := Ideal) .f32 (BitVec.setWidth 32 1#1) = (1 : EReal) := by
        show ((_ : ℝ) : EReal) = 1
        norm_num
      rw [this]; exact one_mul _
    · have : FloatOps.sitofp (F := Ideal) .f32 (BitVec.setWidth 32 0#1) = (0 : EReal) := by
        show ((_ : ℝ) : EReal) = 0
        norm_num
      rw [this]; exact zero_mul _
  rw [Finset.sum_congr rfl fun x _ => hw x, Fin.sum_univ_tiles 32 2 (by decide) (fun x : Fin 64 => if i.val / 2 = x.val / 2 then st (ix3 0 x j) else (0 : EReal))]
  rw [Finset.sum_eq_single (⟨i.val / 2, by omega⟩ : Fin 32)]
  · refine Finset.sum_congr rfl fun t _ => ?_
    rw [if_pos (by simp only; omega)]; rfl
  · intro q _ hq
    refine Finset.sum_eq_zero fun t _ => if_neg ?_
    intro h
    exact hq (Fin.ext (by simp only at h ⊢; omega))
  · intro h; exact absurd (Finset.mem_univ _) h

/-- A group's sum, -/
theorem gsum_at (c : Dev nD) (n : Fin 4) (i : Fin 64) : k0_pay1 k0_pay7 k0_pay8 k0_pay9 (stat (fb m c) (wb m c) n.val) (ix2 i 0)
    = Spec.over (Spec.conv (feat m c) (w1 m c) n) i := by
  rw [pay1_at]
  refine Finset.sum_congr rfl fun e _ => ?_
  rw [stat, pair, if_pos (by rfl)]
  exact sum_at m c n _

/-- and its sum of squares. -/
theorem gsq_at (c : Dev nD) (n : Fin 4) (i : Fin 64) : k0_pay1 k0_pay7 k0_pay8 k0_pay9 (stat (fb m c) (wb m c) n.val) (ix2 i 1)
    = Spec.over (fun d y x => Spec.conv (feat m c) (w1 m c) n d y x * Spec.conv (feat m c) (w1 m c) n d y x) i := by
  rw [pay1_at]
  refine Finset.sum_congr rfl fun e _ => ?_
  have h1 : stat (fb m c) (wb m c) n.val (ix3 0 (Spec.mate i e) 1) = State.sq (fb m c) (wb m c) (4 * n.val + 3) (ix3 0 (Spec.mate i e) 0) := by
    unfold stat pair; exact if_neg Nat.one_ne_zero
  rw [h1]
  exact sq_at m c n _

/-- The group's mean, -/
theorem mean_at (c : Dev nD) (n : Fin 4) (i : Fin 64) : k0_pay2 k0_pay7 k0_pay8 k0_pay9 (stat (fb m c) (wb m c) n.val) (ix2 i 0)
    = Spec.mean (feat m c) (w1 m c) n i := by
  have e : ∀ u v w (st : Vec Ideal S1x64x2 .f32), k0_pay2 u v w st (ix2 i 0) = Ideal.div (k0_pay1 u v w st (ix2 i 0)) (Ideal.ofBits .f32 1207959552#32) :=
    fun u v w st => by pointwise [k0_pay2]
  rw [e, gsum_at]; rfl

/-- the channel's multiplier, -/
theorem mult_col_at (c : Dev nD) (n : Fin 4) (i : Fin 64) : k0_pay3 k0_pay7 k0_pay8 k0_pay9 (stat (fb m c) (wb m c) n.val) (gb m c) (ix2 i 0)
    = Spec.mult (feat m c) (w1 m c) (scale m c) n i := by
  have e : ∀ u v w (st : Vec Ideal S1x64x2 .f32) g, k0_pay3 u v w st g (ix2 i 0) = g (ix2 i 0) * Ideal.rsqrt (Ideal.div (k0_pay1 u v w st (ix2 i 1)) (Ideal.ofBits .f32 1207959552#32)
      - k0_pay2 u v w st (ix2 i 0) * k0_pay2 u v w st (ix2 i 0) + Ideal.ofBits .f32 925353388#32) :=
    fun u v w st g => by pointwise [k0_pay3]
  rw [e, gsq_at, mean_at, gb_at]; rfl

/-- the multiplier at every pixel, -/
theorem mult_at (c : Dev nD) (n : Fin 4) (i : Fin 64) (p : Fin 16384) : State.mult (fb m c) (wb m c) (gb m c) n.val (ix2 i p)
    = Spec.mult (feat m c) (w1 m c) (scale m c) n i := by
  have e : ∀ u v w (st : Vec Ideal S1x64x2 .f32) g, k0_pay4 u v w st g (ix2 i p) = k0_pay3 u v w st g (ix2 i 0) := fun u v w st g => by pointwise [k0_pay4]
  rw [State.mult, e, mult_col_at]

/-- and the offset. -/
theorem shift_at (c : Dev nD) (n : Fin 4) (i : Fin 64) (p : Fin 16384) : State.shift (fb m c) (wb m c) (gb m c) (bb m c) n.val (ix2 i p)
    = Spec.shift (feat m c) (w1 m c) (scale m c) (bias m c) n i := by
  have e : ∀ u v w (st : Vec Ideal S1x64x2 .f32) g b, k0_pay5 u v w st g b (ix2 i p) = b (ix2 i 0) - k0_pay2 u v w st (ix2 i 0) * k0_pay3 u v w st g (ix2 i 0) :=
    fun u v w st g b => by pointwise [k0_pay5]
  rw [State.shift, e, mult_col_at, mean_at, bb_at]; rfl

/-! ## The emitted block -/

/-- The block emitted four points after block `s` of batch `n` was read is the result at its pixels. -/
theorem ob_at (c : Dev nD) (n s : Fin 4) (o : Fin 17) (p : Fin 16384) (k : ℕ) (hk : k = 4 * n.val + s.val + 4) :
    ob m c k (ix3 0 o p) = Spec.fused (feat m c) (w1 m c) (scale m c) (bias m c) (w2 m c) n o (row s p) (col p) := by
  have e : ∀ x a c v, k0_pay6 (F := Ideal) x a c v (ix3 0 o p) = ∑ x_1, v (ix2 o x_1) * max (a (ix2 x_1 p) * x (ix3 0 x_1 p) + c (ix2 x_1 p)) 0 :=
    fun x a c v => by pointwise [k0_pay6]
  rw [ob, out, e, show k - 4 = 4 * n.val + s.val by omega, show k / 4 - 1 = n.val by omega]
  simp only [mult_at, shift_at, pay12_at, vb_at]
  rfl

end Cert.Proof.KernelValue

end
-- ==== Proof.KernelRun.lean ====
/-
  The result array of `KernelIdeal`: the emitted blocks tile the output array (`final`), and the run leaves `Spec.fused` of
  the argument arrays in the result, the arguments as launched (`run_value`).
-/
module

public import proofs.«01_k».proof.Proof.KernelSums

@[expose] public section

set_option maxRecDepth 16384

noncomputable section

namespace Cert.Proof.KernelValue

open Cert.KernelIdeal Cert.KernelIdeal.Gen Cert.Proof.Body Cert.Proof.State Cert.Proof.Launch
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- The row of pixel `q` of an image, -/
def prow (q : Fin 65536) : Fin 256 := ⟨q.val / 256, by omega⟩

/-- and its column. -/
def pcol (q : Fin 65536) : Fin 256 := ⟨q.val % 256, by omega⟩

/-- The output array, an image's pixels in one dimension. -/
def flat (c : Dev nD) : Vec Ideal S4x17x65536 .f32 := fun i =>
  Spec.fused (feat m c) (w1 m c) (scale m c) (bias m c) (w2 m c) (i 0) (i 1) (prow (i 2)) (pcol (i 2))

theorem flat_at (c : Dev nD) (n : Fin 4) (o : Fin 17) (q : Fin 65536) :
    flat m c (ix3 n o q) = Spec.fused (feat m c) (w1 m c) (scale m c) (bias m c) (w2 m c) n o (prow q) (pcol q) := rfl

/-- The output is written back only at emitting points. -/
theorem flush_emit : ∀ t : Fin grid0.N, (cfg0.win 5).flush t = true → 4 ≤ t.val := by decide +kernel

/-- An emitted block is the output array at the block's place. -/
theorem ob_flat (c : Dev nD) (n s : Fin 4) (o : Fin 17) (p : Fin 16384) (k : ℕ) (hk : k = 4 * n.val + s.val + 4) :
    ob m c k (ix3 0 o p) = flat m c (ix3 n o ⟨s.val * 16384 + p.val, by omega⟩) := by
  have hr : prow ⟨s.val * 16384 + p.val, by omega⟩ = row s p := Fin.ext (by simp only [row, prow]; omega)
  have hc : pcol ⟨s.val * 16384 + p.val, by omega⟩ = col p := Fin.ext (by simp only [col, pcol]; omega)
  rw [ob_at m c n s o p k hk, flat_at, hr, hc]

/-- The output array after the region. -/
theorem final (c : Dev nD) : (dats m 0 c).arrAt 5 (cfgs 0).N = flat m c := by
  refine (dats m 0 c).arrAt_eq_of_covers 5 _ (by decide +kernel) fun t hf y => ?_
  blk_simp
  rw [after0_5]
  have ht := flush_emit t hf
  have hx := (idx t).2.2.2.2.2 ht
  have hN : t.val < 20 := t.isLt
  have hy : ∀ y : S1x17x16384.Idx, ob m c t.val y = flat m c ((win0_5.blk t).view.emb y) := fun y => by
    obtain ⟨z, o, p, rfl⟩ : ∃ (z : Fin 1) (o : Fin 17) (p : Fin 16384), y = ix3 z o p := ⟨y 0, y 1, y 2, eq_ix3 y⟩
    obtain rfl : z = 0 := Subsingleton.elim _ _
    rw [ob_flat m c ⟨t.val / 4 - 1, by omega⟩ ⟨t.val % 4, by omega⟩ o p t.val (by simp only; omega)]
    blk_ext [hx]
  exact hy y

/-- The result is the output array with an image's pixels in two dimensions. -/
theorem result_at (c : Dev nD) (v : Vec Ideal S4x17x65536 .f32) (hv : v = flat m c) :
    shapeCast S4x17x256x256 v shapeCasts_S4x17x65536_S4x17x256x256
      = fun i => Spec.fused (feat m c) (w1 m c) (scale m c) (bias m c) (w2 m c) (i 0) (i 1) (i 2) (i 3) := by
  subst hv
  funext i
  have e : ∀ v : Vec Ideal S4x17x65536 .f32, ∀ (n : Fin 4) (o : Fin 17) (y x : Fin 256),
      shapeCast S4x17x256x256 v shapeCasts_S4x17x65536_S4x17x256x256 (ix4 n o y x) = v (ix3 n o ⟨y.val * 256 + x.val, by omega⟩) := fun v n o y x => by
    pointwise
  obtain ⟨n, o, y, x, rfl⟩ : ∃ (n : Fin 4) (o : Fin 17) (y x : Fin 256), i = ix4 n o y x := ⟨i 0, i 1, i 2, i 3, eq_ix4 i⟩
  rw [e, flat_at]
  have hr : prow ⟨y.val * 256 + x.val, by omega⟩ = y := Fin.ext (by simp only [prow]; omega)
  have hc : pcol ⟨y.val * 256 + x.val, by omega⟩ = x := Fin.ext (by simp only [pcol]; omega)
  rw [hr, hc]
  rfl

/-- The windows' arrays are six buffers. -/
theorem arr_inj : Function.Injective (Pipeline.arrRef (cfgs 0).spec) := by decide

/-- THE RUN'S VALUE: the kernel leaves `Spec.fused` of its arguments in the result, and the arguments as launched. -/
theorem run_value : θ_run defs (onTc (τ := τ) (main (F := Ideal))) ⟨m, fun _ => 0, ρ⟩ (fun r => ∀ c : Dev nD,
      r.2.mem ((c.tc : Thread nD τ).loc main_v0) = (fun i => Spec.fused (feat m c) (w1 m c) (scale m c) (bias m c) (w2 m c) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, args_kept m h.1 c⟩) (Launch.run m ρ)
  rw [(h.1 c).2 main_v0 (Pipeline.mem_restRefs_of _ (by decide) (by decide))]
  refine Eq.trans ?_ (result_at m c _ (final m c))
  unfold Pipeline.afterTail₀
  simp only [hostOps1, List.flatten_cons, List.flatten_nil, List.append_nil]
  after_results
  have hA := Pipeline.withArrays_arr (cfgs 0).spec arr_inj c (V0 m c) (fun w => (dats m 0 c).arrAt w (cfgs 0).N) 5
  exact congrArg (fun v : Vec Ideal S4x17x65536 .f32 => shapeCast S4x17x256x256 v shapeCasts_S4x17x65536_S4x17x256x256) hA

end Cert.Proof.KernelValue

end
-- ==== Proof.Algebra.lean ====
/-
  `Spec.fused = Spec.normed` where the features, the first weights and the scales are real numbers: the mean squared deviation
  is the mean square less the squared mean, it is not negative, and the multiplier and offset then give the normalized value.
-/
module

public import proofs.«01_k».proof.Proof.Spec

@[expose] public section

noncomputable section

namespace Cert.Proof.Algebra

open Idealize.ShloMosaic

/-! ## The literals -/

/-- The count is 131072 = 2 * 256 * 256. -/
theorem count_eq : Spec.count = ((131072 : ℝ) : EReal) := by
  unfold Spec.count
  simp [Ideal.ofBits, Ideal.ieee]
  rw [← EReal.coe_mul]
  norm_num

/-- The term added to the variance is a positive real. -/
theorem eps_eq : ∃ e : ℝ, 0 < e ∧ Spec.eps = (e : EReal) := by
  unfold Spec.eps
  simp [Ideal.ofBits, Ideal.ieee]
  exact ⟨_, by positivity, rfl⟩

/-! ## Sums of reals -/

/-- A sum of reals, taken over extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- `Spec.over` of a real function. -/
def overR (f : Fin 64 → Fin 256 → Fin 256 → ℝ) (ch : Fin 64) : ℝ := ∑ j : Fin 2, ∑ y : Fin 256, ∑ x : Fin 256, f (Spec.mate ch j) y x

theorem over_coe (f : Fin 64 → Fin 256 → Fin 256 → ℝ) (ch : Fin 64) : Spec.over (fun d y x => ((f d y x : ℝ) : EReal)) ch = ((overR f ch : ℝ) : EReal) := by
  unfold Spec.over overR
  simp only [coe_sum]

/-- The mean squared deviation is the mean square less the squared mean, -/
theorem deviation {ι : Type} [Fintype ι] (v : ι → ℝ) (n : ℝ) (hn : (Fintype.card ι : ℝ) = n) (h0 : n ≠ 0) :
    (∑ i, (v i - (∑ i, v i) / n) * (v i - (∑ i, v i) / n)) / n = (∑ i, v i * v i) / n - (∑ i, v i) / n * ((∑ i, v i) / n) := by
  generalize hS : ∑ i, v i = S
  have h : ∀ i, (v i - S / n) * (v i - S / n) = v i * v i - 2 * (S / n) * v i + S / n * (S / n) := fun i => by ring
  rw [Finset.sum_congr rfl fun i _ => h i, Finset.sum_add_distrib, Finset.sum_sub_distrib, ← Finset.mul_sum, hS, Finset.sum_const,
    Finset.card_univ, nsmul_eq_mul, hn]
  field_simp
  ring

/-- and over a group of channels it is so too. -/
theorem over_deviation (f : Fin 64 → Fin 256 → Fin 256 → ℝ) (ch : Fin 64) :
    overR (fun d y x => (f d y x - overR f ch / 131072) * (f d y x - overR f ch / 131072)) ch / 131072
      = overR (fun d y x => f d y x * f d y x) ch / 131072 - overR f ch / 131072 * (overR f ch / 131072) := by
  have h := deviation (fun i : Fin 2 × Fin 256 × Fin 256 => f (Spec.mate ch i.1) i.2.1 i.2.2) 131072 (by simp) (by norm_num)
  simp only [Fintype.sum_prod_type] at h
  exact h

/-! ## One channel -/

/-- The multiplier and the offset give the normalized value, at any bias. -/
theorem affine (g x μ s : ℝ) (b : EReal) (hs : 0 < s) :
    ((g : EReal) * ((s⁻¹ : ℝ) : EReal)) * (x : EReal) + (b - (μ : EReal) * ((g : EReal) * ((s⁻¹ : ℝ) : EReal)))
      = Ideal.div ((x : EReal) - (μ : EReal)) (s : EReal) * (g : EReal) + b := by
  rw [Ideal.div_coe hs.ne', ← EReal.coe_sub]
  simp only [← EReal.coe_mul]
  induction b with
  | bot => simp
  | top => rw [EReal.top_sub_coe, EReal.coe_add_top, EReal.coe_add_top]
  | coe b =>
    simp only [← EReal.coe_sub, ← EReal.coe_add]
    congr 1
    ring

/-! ## The two results -/

section

variable (F : (⟨4, ![4, 128, 256, 256]⟩ : Shape).Idx → ℝ) (W : (⟨2, ![64, 128]⟩ : Shape).Idx → ℝ) (G : (⟨1, ![64]⟩ : Shape).Idx → ℝ)

/-- The convolution of reals. -/
def convR (b : Fin 4) (ch : Fin 64) (y x : Fin 256) : ℝ := ∑ k : Fin 128, W (ix2 ch k) * F (ix4 b k y x)

theorem conv_coe (b : Fin 4) : Spec.conv (fun i => (F i : EReal)) (fun i => (W i : EReal)) b = fun ch y x => ((convR F W b ch y x : ℝ) : EReal) := by
  funext ch y x
  simp only [Spec.conv, convR, ← EReal.coe_mul, coe_sum]

theorem div_count (r : ℝ) : Ideal.div (r : EReal) Spec.count = ((r / 131072 : ℝ) : EReal) := by
  rw [count_eq, Ideal.div_coe (by norm_num), ← EReal.coe_mul]
  congr 1; ring

theorem mean_coe (b : Fin 4) (ch : Fin 64) : Spec.mean (fun i => (F i : EReal)) (fun i => (W i : EReal)) b ch = ((overR (convR F W b) ch / 131072 : ℝ) : EReal) := by
  rw [Spec.mean, conv_coe, over_coe, div_count]

theorem msq_coe (b : Fin 4) (ch : Fin 64) : Spec.msq (fun i => (F i : EReal)) (fun i => (W i : EReal)) b ch
    = ((overR (fun d y x => convR F W b d y x * convR F W b d y x) ch / 131072 : ℝ) : EReal) := by
  rw [Spec.msq, conv_coe]
  simp only [← EReal.coe_mul]
  rw [over_coe, div_count]

theorem var_coe (b : Fin 4) (ch : Fin 64) : Spec.var (fun i => (F i : EReal)) (fun i => (W i : EReal)) b ch
    = ((overR (fun d y x => (convR F W b d y x - overR (convR F W b) ch / 131072) * (convR F W b d y x - overR (convR F W b) ch / 131072)) ch / 131072 : ℝ) : EReal) := by
  rw [Spec.var, mean_coe, conv_coe]
  simp only [← EReal.coe_sub, ← EReal.coe_mul]
  rw [over_coe, div_count]

/-- The mean square less the squared mean is the mean squared deviation. -/
theorem msq_sub (b : Fin 4) (ch : Fin 64) : Spec.msq (fun i => (F i : EReal)) (fun i => (W i : EReal)) b ch
      - Spec.mean (fun i => (F i : EReal)) (fun i => (W i : EReal)) b ch * Spec.mean (fun i => (F i : EReal)) (fun i => (W i : EReal)) b ch
    = Spec.var (fun i => (F i : EReal)) (fun i => (W i : EReal)) b ch := by
  rw [msq_coe, mean_coe, var_coe, ← EReal.coe_mul, ← EReal.coe_sub, over_deviation]

/-- The mean squared deviation is not negative. -/
theorem var_nonneg (b : Fin 4) (ch : Fin 64) : ∃ v : ℝ, 0 ≤ v ∧ Spec.var (fun i => (F i : EReal)) (fun i => (W i : EReal)) b ch = (v : EReal) :=
  ⟨_, div_nonneg (Finset.sum_nonneg fun _ _ => Finset.sum_nonneg fun _ _ => Finset.sum_nonneg fun _ _ => mul_self_nonneg _) (by norm_num), var_coe F W b ch⟩

/-- THE ALGEBRA: over real features, first weights and scales the two results agree, at any biases and second weights. -/
theorem fused_eq_normed (bias : (⟨1, ![64]⟩ : Shape).Idx → EReal) (w2 : (⟨2, ![17, 64]⟩ : Shape).Idx → EReal) (b : Fin 4) (o : Fin 17) (y x : Fin 256) :
    Spec.fused (fun i => (F i : EReal)) (fun i => (W i : EReal)) (fun i => (G i : EReal)) bias w2 b o y x
      = Spec.normed (fun i => (F i : EReal)) (fun i => (W i : EReal)) (fun i => (G i : EReal)) bias w2 b o y x := by
  refine Finset.sum_congr rfl fun ch _ => ?_
  congr 2
  obtain ⟨v, hv, ev⟩ := var_nonneg F W b ch
  obtain ⟨e, he, ee⟩ := eps_eq
  have hp : 0 < v + e := by linarith
  have hs : 0 < Real.sqrt (v + e) := Real.sqrt_pos.mpr hp
  rw [Spec.shift, Spec.mult, msq_sub, ev, ee, mean_coe, conv_coe, ← EReal.coe_add, Ideal.rsqrt_coe, Ideal.sqrt_coe,
    if_neg (not_lt.mpr hp.le), if_neg hp.ne', if_neg (not_lt.mpr hp.le)]
  exact affine _ _ _ _ _ hs

end

end Cert.Proof.Algebra

end
-- ==== Proof.RefValue.lean ====
/-
  What `ReferenceIdeal` computes over extended reals: its result is `Spec.normed` of the argument arrays.
-/
module

public import proofs.«01_k».proof.Proof.Algebra
public import proofs.«01_k».proof.Proof.Gen.ReferenceIdeal.Run
public import Idealize.ShloMosaic.Lib.Pointwise

@[expose] public section

set_option maxRecDepth 16384

noncomputable section

namespace Cert.Proof.RefValue

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

theorem sitofp_zero : FloatOps.sitofp (F := Ideal) .f32 0#32 = (0 : EReal) := by
  show ((_ : ℝ) : EReal) = 0
  norm_num

/-- The reference's result at an index. -/
theorem res_at (c : Dev nD) (b : Fin 4) (o : Fin 17) (y x : Fin 256) : Value.res_main_v24 m c (ix4 b o y x)
    = Spec.normed (m ((c : Thread nD τ).loc main_arg0)) (m ((c : Thread nD τ).loc main_arg1)) (m ((c : Thread nD τ).loc main_arg2))
      (m ((c : Thread nD τ).loc main_arg3)) (m ((c : Thread nD τ).loc main_arg4)) b o y x := by
  pointwise [Value.res_main_v24]
  have h0 : Ideal.ofBits .f32 1207959552#32 - FloatOps.sitofp (F := Ideal) .f32 0#32 = Spec.count := by
    rw [sitofp_zero]; exact sub_zero _
  have h1 : 0 < Spec.count := by rw [Algebra.count_eq]; exact_mod_cast (by norm_num : (0:ℝ) < 131072)
  simp only [h0, if_pos h1]
  rfl

/-- THE FRAME: the reference runs to its end with its arguments as launched and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m ρ)

end Cert.Proof.RefValue

end
-- ==== Proof.Finite.lean ====
/-
  The precondition `finite_data`: its side conditions, and that arrays which meet it hold real numbers.
-/
module

public import proofs.«01_k».proof.Pre_finite_data
public import Idealize.ShloMosaic.Lib.Pointwise

@[expose] public section

noncomputable section

namespace Cert.Proof.Finite

open Idealize.ShloMosaic Cert.Pre_finite_data

/-- The shape relations the precondition's operations take. -/
theorem facts : Cert.Pre_finite_data.Facts where
  bcast_S_S4x128x256x256 := by decide
  bcast_S_S64x128 := by decide
  bcast_S_S64 := by decide

/-- An extended real whose absolute value is below the infinity is a real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x with
  | coe r => exact ⟨r, rfl⟩
  | bot =>
    have e : FloatOps.absf (F := Ideal) (φ := .f32) (⊥ : EReal) = (⊤ : EReal) := by show max (⊥ : EReal) (-⊥) = ⊤; simp
    rw [e] at h
    exact absurd h (by show ¬ Ideal.cmp .olt ⊤ ⊤ = 1#1; simp [Ideal.cmp])
  | top =>
    have e : FloatOps.absf (F := Ideal) (φ := .f32) (⊤ : EReal) = (⊤ : EReal) := by show max (⊤ : EReal) (-⊤) = ⊤; simp
    rw [e] at h
    exact absurd h (by show ¬ Ideal.cmp .olt ⊤ ⊤ = 1#1; simp [Ideal.cmp])

variable [Cert.Pre_finite_data.Facts] (a0 : FVec Ideal S4x128x256x256 .f32) (a1 : FVec Ideal S64x128 .f32) (a2 a3 : FVec Ideal S64 .f32) (a4 : FVec Ideal S17x64 .f32)

/-- The features are reals, -/
theorem feat_real (h : (fn a0 a1 a2 a3 a4).1 = fun _ => 1#1) : ∃ F : S4x128x256x256.Idx → ℝ, a0 = fun i => (F i : EReal) := by
  have h' : ∀ i, ∃ r : ℝ, a0 i = (r : EReal) := fun i => real_of_lt _ (congrFun h i)
  choose F hF using h'
  exact ⟨F, funext hF⟩

/-- so are the first weights, -/
theorem w1_real (h : (fn a0 a1 a2 a3 a4).2.1 = fun _ => 1#1) : ∃ F : S64x128.Idx → ℝ, a1 = fun i => (F i : EReal) := by
  have h' : ∀ i, ∃ r : ℝ, a1 i = (r : EReal) := fun i => real_of_lt _ (congrFun h i)
  choose F hF using h'
  exact ⟨F, funext hF⟩

/-- and the scales. -/
theorem scale_real (h : (fn a0 a1 a2 a3 a4).2.2 = fun _ => 1#1) : ∃ F : S64.Idx → ℝ, a2 = fun i => (F i : EReal) := by
  have h' : ∀ i, ∃ r : ℝ, a2 i = (r : EReal) := fun i => real_of_lt _ (congrFun h i)
  choose F hF using h'
  exact ⟨F, funext hF⟩

end Cert.Proof.Finite

end
-- ==== Proof.lean ====
/-
  The proof of `Cert.Claim` (Defs.lean). The kernel's frames are Proof/KernelFrame.lean (bit patterns) and Proof/Launch.lean
  (extended reals), the reference's is Proof/RefValue.lean. The value claim joins three facts: the kernel's result is
  `Spec.fused` of its arguments (Proof/KernelRun.lean), the reference's is `Spec.normed` of its own (Proof/RefValue.lean), and
  the two agree over real features, first weights and scales (Proof/Algebra.lean), which the precondition gives
  (Proof/Finite.lean).
-/
module

public import proofs.«01_k».proof.Defs
public import proofs.«01_k».proof.Proof.Gen.Kernel
public import proofs.«01_k».proof.Proof.KernelFrame
public import proofs.«01_k».proof.Proof.KernelRun
public import proofs.«01_k».proof.Proof.RefValue
public import proofs.«01_k».proof.Proof.Algebra
public import proofs.«01_k».proof.Proof.Finite

@[expose] public section

noncomputable section

namespace Cert.Proof

open Idealize.ShloMosaic Idealize.SL.Sem

/-- The kernel at bit patterns runs to its end, keeps its arguments and leaves every semaphore at zero, -/
theorem frame_kernel : Cert.quiescent_Kernel := fun m ρ _ => KernelFrame.frame m ρ

/-- so does the kernel at extended reals, -/
theorem frame_ideal : Cert.quiescent_KernelIdeal := fun m ρ _ => Launch.frame m ρ

/-- with or without the precondition, -/
theorem frame_ideal_pre [Cert.Pre_finite_data.Facts] : Cert.quiescent_KernelIdeal_pre_finite_data := fun m ρ _ => Launch.frame m ρ

/-- and so does the reference, -/
theorem frame_reference : Cert.quiescent_ReferenceIdeal := fun m ρ _ => RefValue.frame m ρ

/-- with or without the precondition. -/
theorem frame_reference_pre [Cert.Pre_finite_data.Facts] : Cert.quiescent_ReferenceIdeal_pre_finite_data := fun m ρ _ => RefValue.frame m ρ

/-- THE VALUE: over extended reals, from equal arguments with finite features, first weights and scales, the kernel and the
    reference end with the same result array. -/
theorem value [Cert.Pre_finite_data.Facts] : Cert.algebraic_KernelIdeal_ReferenceIdeal_pre_finite_data := by
  intro m g m' g' hpre hagree
  refine ⟨_, KernelValue.run_value m g, ?_⟩
  refine θ_run_mono (Cert.ReferenceIdeal.Value.run m' g') fun r h c => ⟨(h c).1.trans ?_, (h c).2⟩
  obtain ⟨h0, h1, h2, h3, h4⟩ := hagree c
  obtain ⟨p0, p1, p2⟩ := hpre c
  obtain ⟨F, hF⟩ := Finite.feat_real _ _ _ _ _ p0
  obtain ⟨W, hW⟩ := Finite.w1_real _ _ _ _ _ p1
  obtain ⟨G, hG⟩ := Finite.scale_real _ _ _ _ _ p2
  funext i
  obtain ⟨b, o, y, x, rfl⟩ : ∃ (b : Fin 4) (o : Fin 17) (y x : Fin 256), i = ix4 b o y x := ⟨i 0, i 1, i 2, i 3, eq_ix4 i⟩
  refine (RefValue.res_at m' c b o y x).trans ?_
  rw [h0, h1, h2, h3, h4]
  refine Eq.trans ?_ (show Spec.fused (KernelValue.feat m c) (KernelValue.w1 m c) (KernelValue.scale m c) (KernelValue.bias m c) (KernelValue.w2 m c) b o y x = _ from rfl)
  unfold KernelValue.feat KernelValue.w1 KernelValue.scale
  rw [hF, hW, hG]
  exact (Algebra.fused_eq_normed F W G _ _ b o y x).symm

theorem claim : Cert.Claim :=
  ⟨Cert.Kernel.Gen.facts, Cert.KernelIdeal.Gen.facts, Cert.ReferenceIdeal.Gen.facts, Finite.facts,
    letI := Finite.facts
    ⟨frame_kernel, frame_ideal, frame_ideal_pre, frame_reference, frame_reference_pre, trivial, value⟩⟩

end Cert.Proof

end
